-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S512x512 : Shape := ⟨2, ![512, 512]⟩
abbrev S2x4x256x64 : Shape := ⟨4, ![2, 4, 256, 64]⟩
abbrev S8x256x64 : Shape := ⟨3, ![8, 256, 64]⟩
abbrev S3x512x512 : Shape := ⟨3, ![3, 512, 512]⟩
abbrev S3x8 : Shape := ⟨2, ![3, 8]⟩
abbrev S256x256 : Shape := ⟨2, ![256, 256]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S1x256x512 : Shape := ⟨3, ![1, 256, 512]⟩
abbrev S1x1 : Shape := ⟨2, ![1, 1]⟩
abbrev S1x64x512 : Shape := ⟨3, ![1, 64, 512]⟩
abbrev S64x512 : Shape := ⟨2, ![64, 512]⟩

abbrev nBuf : Space → Nat
  | .hbm => 36
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x4x64, .bf16⟩
  | .hbm, ⟨3, _⟩ => ⟨S2x256x4x64, .bf16⟩
  | .hbm, ⟨4, _⟩ => ⟨S2048x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S512x512, .bf16⟩
  | .hbm, ⟨30, _⟩ => ⟨S2x4x256x64, .bf16⟩
  | .hbm, ⟨31, _⟩ => ⟨S8x256x64, .bf16⟩
  | .hbm, ⟨32, _⟩ => ⟨S2x4x256x64, .bf16⟩
  | .hbm, ⟨33, _⟩ => ⟨S8x256x64, .bf16⟩
  | .hbm, ⟨34, _⟩ => ⟨S512x512, .f32⟩
  | .hbm, ⟨35, _⟩ => ⟨S2x256x512, .f32⟩
  | .local _ .vmem, ⟨0, _⟩ => ⟨S512x512, .bf16⟩
  | .local _ .vmem, ⟨1, _⟩ => ⟨S512x256, .bf16⟩
  | .local _ .vmem, ⟨2, _⟩ => ⟨S8x256x64, .bf16⟩
  | .local _ .vmem, ⟨3, _⟩ => ⟨S8x256x64, .bf16⟩
  | .local _ .vmem, ⟨4, _⟩ => ⟨S256x512, .bf16⟩
  | .local _ .vmem, ⟨5, _⟩ => ⟨S512x512, .f32⟩
  | .local _ .vmem, ⟨6, _⟩ => ⟨S512x256, .bf16⟩
  | .local _ .vmem, ⟨7, _⟩ => ⟨S3x512x512, .bf16⟩
  | .local _ .vmem, ⟨8, _⟩ => ⟨S3x512x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 2 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v213 : BitVec 32 := Scalar.xori v2 c1_i32_102
  let c1_i32_104 : BitVec 32 := 1#32
  let v214 : BitVec 32 := Scalar.muli v213 c1_i32_104
  let v215 : BitVec 32 := Scalar.addi c0_i32_105 v214
  v215.toNat
def k0_dev2 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_106 : BitVec 32 := 3#32
  let v216 : BitVec 32 := Scalar.xori v2 c3_i32_106
  let c1_i32_108 : BitVec 32 := 1#32
  let v217 : BitVec 32 := Scalar.muli v216 c1_i32_108
  let v218 : BitVec 32 := Scalar.addi c0_i32_109 v217
  v218.toNat
def k0_dev3 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_110 : BitVec 32 := 4#32
  let v219 : BitVec 32 := Scalar.xori v2 c4_i32_110
  let c1_i32_112 : BitVec 32 := 1#32
  let v220 : BitVec 32 := Scalar.muli v219 c1_i32_112
  let v221 : BitVec 32 := Scalar.addi c0_i32_113 v220
  v221.toNat
def k0_dev4 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v77 : BitVec 32 := Scalar.xori v2 c1_i32_19
  let c1_i32_126 : BitVec 32 := 1#32
  let v228 : BitVec 32 := Scalar.muli v77 c1_i32_126
  let v229 : BitVec 32 := Scalar.addi c0_i32_127 v228
  v229.toNat
def k0_dev5 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v78 : BitVec 32 := Scalar.xori v2 c1_i32_20
  let c1_i32_138 : BitVec 32 := 1#32
  let v238 : BitVec 32 := Scalar.muli v78 c1_i32_138
  let v239 : BitVec 32 := Scalar.addi c0_i32_139 v238
  v239.toNat
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v79 : BitVec 32 := Scalar.xori v2 c1_i32_21
  let c1_i32_149 : BitVec 32 := 1#32
  let v248 : BitVec 32 := Scalar.muli v79 c1_i32_149
  let v249 : BitVec 32 := Scalar.addi c0_i32_150 v248
  v249.toNat
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v80 : BitVec 32 := Scalar.xori v2 c1_i32_22
  let c1_i32_160 : BitVec 32 := 1#32
  let v258 : BitVec 32 := Scalar.muli v80 c1_i32_160
  let v259 : BitVec 32 := Scalar.addi c0_i32_161 v258
  v259.toNat
def k0_dev8 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v81 : BitVec 32 := Scalar.xori v2 c1_i32_23
  let c1_i32_239 : BitVec 32 := 1#32
  let v385 : BitVec 32 := Scalar.muli v81 c1_i32_239
  let v386 : BitVec 32 := Scalar.addi c0_i32_240 v385
  v386.toNat
def k0_dev9 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v82 : BitVec 32 := Scalar.xori v2 c1_i32_24
  let c1_i32_249 : BitVec 32 := 1#32
  let v395 : BitVec 32 := Scalar.muli v82 c1_i32_249
  let v396 : BitVec 32 := Scalar.addi c0_i32_250 v395
  v396.toNat
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v83 : BitVec 32 := Scalar.xori v2 c1_i32_25
  let c1_i32_259 : BitVec 32 := 1#32
  let v405 : BitVec 32 := Scalar.muli v83 c1_i32_259
  let v406 : BitVec 32 := Scalar.addi c0_i32_260 v405
  v406.toNat
def k0_dev11 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_26 : BitVec 32 := 1#32
  let v84 : BitVec 32 := Scalar.xori v2 c1_i32_26
  let c1_i32_269 : BitVec 32 := 1#32
  let v415 : BitVec 32 := Scalar.muli v84 c1_i32_269
  let v416 : BitVec 32 := Scalar.addi c0_i32_270 v415
  v416.toNat
def k0_dev12 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v85 : BitVec 32 := Scalar.xori v2 c3_i32_27
  let c1_i32_313 : BitVec 32 := 1#32
  let v450 : BitVec 32 := Scalar.muli v85 c1_i32_313
  let v451 : BitVec 32 := Scalar.addi c0_i32_314 v450
  v451.toNat
def k0_dev13 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_28 : BitVec 32 := 3#32
  let v86 : BitVec 32 := Scalar.xori v2 c3_i32_28
  let c1_i32_358 : BitVec 32 := 1#32
  let v485 : BitVec 32 := Scalar.muli v86 c1_i32_358
  let v486 : BitVec 32 := Scalar.addi c0_i32_359 v485
  v486.toNat
def k0_dev14 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v87 : BitVec 32 := Scalar.xori v2 c3_i32_29
  let c1_i32_403 : BitVec 32 := 1#32
  let v520 : BitVec 32 := Scalar.muli v87 c1_i32_403
  let v521 : BitVec 32 := Scalar.addi c0_i32_404 v520
  v521.toNat
def k0_dev15 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_30 : BitVec 32 := 3#32
  let v88 : BitVec 32 := Scalar.xori v2 c3_i32_30
  let c1_i32_448 : BitVec 32 := 1#32
  let v555 : BitVec 32 := Scalar.muli v88 c1_i32_448
  let v556 : BitVec 32 := Scalar.addi c0_i32_449 v555
  v556.toNat
def k0_dev16 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v89 : BitVec 32 := Scalar.xori v2 c3_i32_31
  let c1_i32_493 : BitVec 32 := 1#32
  let v590 : BitVec 32 := Scalar.muli v89 c1_i32_493
  let v591 : BitVec 32 := Scalar.addi c0_i32_494 v590
  v591.toNat
def k0_dev17 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v90 : BitVec 32 := Scalar.xori v2 c3_i32_32
  let c1_i32_537 : BitVec 32 := 1#32
  let v625 : BitVec 32 := Scalar.muli v90 c1_i32_537
  let v626 : BitVec 32 := Scalar.addi c0_i32_538 v625
  v626.toNat
def k0_dev18 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_33 : BitVec 32 := 3#32
  let v91 : BitVec 32 := Scalar.xori v2 c3_i32_33
  let c1_i32_581 : BitVec 32 := 1#32
  let v660 : BitVec 32 := Scalar.muli v91 c1_i32_581
  let v661 : BitVec 32 := Scalar.addi c0_i32_582 v660
  v661.toNat
def k0_dev19 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v92 : BitVec 32 := Scalar.xori v2 c3_i32_34
  let c1_i32_625 : BitVec 32 := 1#32
  let v695 : BitVec 32 := Scalar.muli v92 c1_i32_625
  let v696 : BitVec 32 := Scalar.addi c0_i32_626 v695
  v696.toNat
def k0_dev20 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v93 : BitVec 32 := Scalar.xori v2 c4_i32
  let c1_i32_670 : BitVec 32 := 1#32
  let v730 : BitVec 32 := Scalar.muli v93 c1_i32_670
  let v731 : BitVec 32 := Scalar.addi c0_i32_671 v730
  v731.toNat
def k0_dev21 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_35 : BitVec 32 := 4#32
  let v94 : BitVec 32 := Scalar.xori v2 c4_i32_35
  let c1_i32_715 : BitVec 32 := 1#32
  let v765 : BitVec 32 := Scalar.muli v94 c1_i32_715
  let v766 : BitVec 32 := Scalar.addi c0_i32_716 v765
  v766.toNat
def k0_dev22 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_36 : BitVec 32 := 4#32
  let v95 : BitVec 32 := Scalar.xori v2 c4_i32_36
  let c1_i32_760 : BitVec 32 := 1#32
  let v800 : BitVec 32 := Scalar.muli v95 c1_i32_760
  let v801 : BitVec 32 := Scalar.addi c0_i32_761 v800
  v801.toNat
def k0_dev23 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v96 : BitVec 32 := Scalar.xori v2 c4_i32_37
  let c1_i32_805 : BitVec 32 := 1#32
  let v835 : BitVec 32 := Scalar.muli v96 c1_i32_805
  let v836 : BitVec 32 := Scalar.addi c0_i32_806 v835
  v836.toNat
def k0_dev24 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_38 : BitVec 32 := 4#32
  let v97 : BitVec 32 := Scalar.xori v2 c4_i32_38
  let c1_i32_850 : BitVec 32 := 1#32
  let v870 : BitVec 32 := Scalar.muli v97 c1_i32_850
  let v871 : BitVec 32 := Scalar.addi c0_i32_851 v870
  v871.toNat
def k0_dev25 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_39 : BitVec 32 := 4#32
  let v98 : BitVec 32 := Scalar.xori v2 c4_i32_39
  let c1_i32_895 : BitVec 32 := 1#32
  let v905 : BitVec 32 := Scalar.muli v98 c1_i32_895
  let v906 : BitVec 32 := Scalar.addi c0_i32_896 v905
  v906.toNat
def k0_dev26 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_40 : BitVec 32 := 4#32
  let v99 : BitVec 32 := Scalar.xori v2 c4_i32_40
  let c1_i32_940 : BitVec 32 := 1#32
  let v940 : BitVec 32 := Scalar.muli v99 c1_i32_940
  let v941 : BitVec 32 := Scalar.addi c0_i32_941 v940
  v941.toNat
def k0_dev27 (d0 : Dev nD) : Nat :=
  let c0_i32_986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_41 : BitVec 32 := 4#32
  let v100 : BitVec 32 := Scalar.xori v2 c4_i32_41
  let c1_i32_985 : BitVec 32 := 1#32
  let v975 : BitVec 32 := Scalar.muli v100 c1_i32_985
  let v976 : BitVec 32 := Scalar.addi c0_i32_986 v975
  v976.toNat
def k0_dev28 (d0 : Dev nD) : Nat :=
  let c0_i32_1234_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1231_r0 : BitVec 32 := 1#32
  let v1154_r0 : BitVec 32 := Scalar.xori v2 c1_i32_1231_r0
  let c1_i32_1233_r0 : BitVec 32 := 1#32
  let v1155_r0 : BitVec 32 := Scalar.muli v1154_r0 c1_i32_1233_r0
  let v1156_r0 : BitVec 32 := Scalar.addi c0_i32_1234_r0 v1155_r0
  v1156_r0.toNat
def k0_dev29 (d0 : Dev nD) : Nat :=
  let c0_i32_1238_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1235_r0 : BitVec 32 := 3#32
  let v1157_r0 : BitVec 32 := Scalar.xori v2 c3_i32_1235_r0
  let c1_i32_1237_r0 : BitVec 32 := 1#32
  let v1158_r0 : BitVec 32 := Scalar.muli v1157_r0 c1_i32_1237_r0
  let v1159_r0 : BitVec 32 := Scalar.addi c0_i32_1238_r0 v1158_r0
  v1159_r0.toNat
def k0_dev30 (d0 : Dev nD) : Nat :=
  let c0_i32_1242_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1239_r0 : BitVec 32 := 4#32
  let v1160_r0 : BitVec 32 := Scalar.xori v2 c4_i32_1239_r0
  let c1_i32_1241_r0 : BitVec 32 := 1#32
  let v1161_r0 : BitVec 32 := Scalar.muli v1160_r0 c1_i32_1241_r0
  let v1162_r0 : BitVec 32 := Scalar.addi c0_i32_1242_r0 v1161_r0
  v1162_r0.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 128
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x32x64, .bf16⟩
  | .hbm, ⟨3, _⟩ => ⟨S2x256x32x64, .bf16⟩
  | .hbm, ⟨4, _⟩ => ⟨S2048x512, .bf16⟩
  | .hbm, ⟨5, _⟩ => ⟨S2x256x512, .f32⟩
  | .hbm, ⟨6, _⟩ => ⟨S512x2048, .f32⟩
  | .hbm, ⟨7, _⟩ => ⟨S2x256x32x64, .f32⟩
  | .hbm, ⟨8, _⟩ => ⟨S2x256x32x64, .f32⟩
  | .hbm, ⟨9, _⟩ => ⟨S2048x512, .f32⟩
  | .hbm, ⟨10, _⟩ => ⟨S2x256x2048, .f32⟩
  | .hbm, ⟨11, _⟩ => ⟨S2x256x32x64, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S1x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S_, .i32⟩
  | .hbm, ⟨56, _⟩ => ⟨S1x256, .i32⟩
  | .hbm, ⟨57, _⟩ => ⟨S1x256, .i1⟩
  | .hbm, ⟨58, _⟩ => ⟨S256x256, .i1⟩
  | .hbm, ⟨59, _⟩ => ⟨S256x256, .i1⟩
  | .hbm, ⟨60, _⟩ => ⟨S256x256, .i32⟩
  | .hbm, ⟨61, _⟩ => ⟨S256x256, .i32⟩
  | .hbm, ⟨62, _⟩ => ⟨S256x256, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S_, .i32⟩
  | .hbm, ⟨72, _⟩ => ⟨S256x256, .i32⟩
  | .hbm, ⟨73, _⟩ => ⟨S256x256, .i1⟩
  | .hbm, ⟨74, _⟩ => ⟨S_, .i32⟩
  | .hbm, ⟨75, _⟩ => ⟨S256x256, .i32⟩
  | .hbm, ⟨76, _⟩ => ⟨S256x256, .i1⟩
  | .hbm, ⟨77, _⟩ => ⟨S_, .i32⟩
  | .hbm, ⟨78, _⟩ => ⟨S_, .i1⟩
  | .hbm, ⟨79, _⟩ => ⟨S256x256, .i1⟩
  | .hbm, ⟨80, _⟩ => ⟨S256x256, .i1⟩
  | .hbm, ⟨81, _⟩ => ⟨S256x256, .i1⟩
  | .hbm, ⟨82, _⟩ => ⟨S256x256, .i32⟩
  | .hbm, ⟨83, _⟩ => ⟨S256x256, .i32⟩
  | .hbm, ⟨84, _⟩ => ⟨S256x256, .i32⟩
  | .hbm, ⟨85, _⟩ => ⟨S_, .i32⟩
  | .hbm, ⟨86, _⟩ => ⟨S256x256, .i32⟩
  | .hbm, ⟨87, _⟩ => ⟨S256x256, .i1⟩
  | .hbm, ⟨88, _⟩ => ⟨S256x256, .i1⟩
  | .hbm, ⟨89, _⟩ => ⟨S2x32x256x256, .f32⟩
  | .hbm, ⟨90, _⟩ => ⟨S_, .f32⟩
  | .hbm, ⟨91, _⟩ => ⟨S2x32x256x256, .f32⟩
  | .hbm, ⟨92, _⟩ => ⟨S2x32x256x256, .f32⟩
  | .hbm, ⟨93, _⟩ => ⟨S1x1x256x256, .i1⟩
  | .hbm, ⟨94, _⟩ => ⟨S_, .f32⟩
  | .hbm, ⟨95, _⟩ => ⟨S_, .f32⟩
  | .hbm, ⟨96, _⟩ => ⟨S2x32x256x256, .i1⟩
  | .hbm, ⟨97, _⟩ => ⟨S2x32x256x256, .f32⟩
  | .hbm, ⟨98, _⟩ => ⟨S2x32x256x256, .f32⟩
  | .hbm, ⟨99, _⟩ => ⟨S_, .f32⟩
  | .hbm, ⟨100, _⟩ => ⟨S2x32x256, .f32⟩
  | .hbm, ⟨101, _⟩ => ⟨S2x32x256x1, .f32⟩
  | .hbm, ⟨102, _⟩ => ⟨S2x32x256x256, .f32⟩
  | .hbm, ⟨103, _⟩ => ⟨S2x32x256x256, .f32⟩
  | .hbm, ⟨104, _⟩ => ⟨S2x32x256x256, .f32⟩
  | .hbm, ⟨105, _⟩ => ⟨S_, .i1⟩
  | .hbm, ⟨106, _⟩ => ⟨S256, .i1⟩
  | .hbm, ⟨107, _⟩ => ⟨S1x1x256x1, .i1⟩
  | .hbm, ⟨108, _⟩ => ⟨S_, .f32⟩
  | .hbm, ⟨109, _⟩ => ⟨S2x32x256, .f32⟩
  | .hbm, ⟨110, _⟩ => ⟨S2x32x256x1, .f32⟩
  | .hbm, ⟨111, _⟩ => ⟨S_, .f32⟩
  | .hbm, ⟨112, _⟩ => ⟨S_, .f32⟩
  | .hbm, ⟨113, _⟩ => ⟨S2x32x256x1, .i1⟩
  | .hbm, ⟨114, _⟩ => ⟨S2x32x256x1, .f32⟩
  | .hbm, ⟨115, _⟩ => ⟨S2x32x256x1, .f32⟩
  | .hbm, ⟨116, _⟩ => ⟨S2x32x256x256, .f32⟩
  | .hbm, ⟨117, _⟩ => ⟨S2x32x256x256, .f32⟩
  | .hbm, ⟨118, _⟩ => ⟨S1x1x256x1, .i1⟩
  | .hbm, ⟨119, _⟩ => ⟨S_, .f32⟩
  | .hbm, ⟨120, _⟩ => ⟨S_, .f32⟩
  | .hbm, ⟨121, _⟩ => ⟨S2x32x256x256, .i1⟩
  | .hbm, ⟨122, _⟩ => ⟨S2x32x256x256, .f32⟩
  | .hbm, ⟨123, _⟩ => ⟨S2x32x256x256, .f32⟩
  | .hbm, ⟨124, _⟩ => ⟨S2x32x64x256, .f32⟩
  | .hbm, ⟨125, _⟩ => ⟨S2x256x32x64, .f32⟩
  | .hbm, ⟨126, _⟩ => ⟨S2x256x2048, .f32⟩
  | .hbm, ⟨127, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Body.lean ====
/- The kernel's body as a short program: the attention of one batch entry, four heads at a time; the
   three meetings of a device with its peers; and the exchange of one row block with one peer. The
   printed body is this program, operation by operation. -/
module

public import proofs.«01_k».proof.Proof.Gen.KernelIdeal.Skeleton

@[expose] public section

noncomputable section

namespace Cert.KernelIdeal.Talk

open Idealize.ShloMosaic Idealize.SL.Sem Cert.KernelIdeal.Gen

variable {F : FTy → Type} [FloatOps F]

/-! ## Where things lie -/

/-- Row block `k` of the `512 × 512` accumulator. -/
theorem inbRows (k : Fin 8) : ∀ a, (![64 * k.val, 0] : Fin 2 → Nat) a + S64x512.size a ≤ S512x512.size a := by
  revert k; decide
/-- Row block `k` of slot `r` of an exchange buffer. -/
theorem inbSlot (r : Fin 3) (k : Fin 8) :
    ∀ a, (![r.val, 64 * k.val, 0] : Fin 3 → Nat) a + S1x64x512.size a ≤ S3x512x512.size a := by
  revert r k; decide
/-- Entry `(r, k)` of an array of transfer semaphores. -/
theorem inbSem (r : Fin 3) (k : Fin 8) : ∀ a, (![r.val, k.val] : Fin 2 → Nat) a + S1x1.size a ≤ S3x8.size a := by
  revert r k; decide
/-- The rows of batch entry `b` in the accumulator. -/
theorem inbHalf (b : Fin 2) : ∀ a, (![256 * b.val, 0] : Fin 2 → Nat) a + S256x512.size a ≤ S512x512.size a := by
  revert b; decide
/-- The rows of batch entry `b` in slot 0 of the send buffer. -/
theorem inbHalfSend (b : Fin 2) :
    ∀ a, (![0, 256 * b.val, 0] : Fin 3 → Nat) a + S1x256x512.size a ≤ S3x512x512.size a := by
  revert b; decide
/-- The rows of batch entry `b` in the context. -/
theorem inbCtx (b : Fin 2) : ∀ a, (![256 * b.val, 0] : Fin 2 → Nat) a + S256x256.size a ≤ S512x256.size a := by
  revert b; decide
/-- The columns of head `h` in the rows of batch entry `b` of the context. -/
theorem inbHead (b : Fin 2) (h : Fin 4) :
    ∀ a, (![256 * b.val, 64 * h.val] : Fin 2 → Nat) a + S256x64.size a ≤ S512x256.size a := by
  revert b h; decide
/-- Head `h` of batch entry `b` among the eight blocks of keys or values. -/
theorem inbKv (b : Fin 2) (h : Fin 4) :
    ∀ a, (![4 * b.val + h.val, 0, 0] : Fin 3 → Nat) a + S1x256x64.size a ≤ S8x256x64.size a := by
  revert b h; decide
/-- The columns of head `h` in the queries of one batch entry. -/
theorem slicesHead (h : Fin 4) : S256x256.Slices ![0, 64 * h.val] S256x64 := by
  revert h; decide

abbrev rowsRect (k : Fin 8) : Rect S512x512 := Rect.unit (s := S512x512) ![64 * k.val, 0] S64x512.size (inbRows k)
abbrev slotRect (r : Fin 3) (k : Fin 8) : Rect S3x512x512 :=
  Rect.unit (s := S3x512x512) ![r.val, 64 * k.val, 0] S1x64x512.size (inbSlot r k)
abbrev halfRect (b : Fin 2) : Rect S512x512 := Rect.unit (s := S512x512) ![256 * b.val, 0] S256x512.size (inbHalf b)
abbrev halfSendRect (b : Fin 2) : Rect S3x512x512 :=
  Rect.unit (s := S3x512x512) ![0, 256 * b.val, 0] S1x256x512.size (inbHalfSend b)
abbrev ctxRect (b : Fin 2) : Rect S512x256 := Rect.unit (s := S512x256) ![256 * b.val, 0] S256x256.size (inbCtx b)
abbrev headRect (b : Fin 2) (h : Fin 4) : Rect S512x256 :=
  Rect.unit (s := S512x256) ![256 * b.val, 64 * h.val] S256x64.size (inbHead b h)
abbrev kvRect (b : Fin 2) (h : Fin 4) : Rect S8x256x64 :=
  Rect.unit (s := S8x256x64) ![4 * b.val + h.val, 0, 0] S1x256x64.size (inbKv b h)

/-- A row block of a slot starts and ends on whole words. -/
theorem slotWords (r : Fin 3) (k : Fin 8) : (slotRect r k).WholeWords (EltTy.packing .bf16) := by
  revert r k; decide
theorem slotPacked (r : Fin 3) (k : Fin 8) : (slotRect r k).PackedRows (EltTy.packing .bf16) := by
  revert r k; decide
theorem halfPacked (b : Fin 2) : (halfSendRect b).PackedRows (EltTy.packing .bf16) := by
  revert b; decide
theorem headPacked (b : Fin 2) (h : Fin 4) : (headRect b h).PackedRows (EltTy.packing .bf16) := by
  revert b h; decide

/-! ## Whom a device talks to -/

/-- The device a device exchanges with in round `r`: the one whose number differs in the bits of 1, of 3, of 4. -/
def peer (r : Fin 3) (c : Dev nD) : Dev nD :=
  ⟨c.val ^^^ (![1, 3, 4] : Fin 3 → Nat) r, by revert r c; decide⟩

theorem peer_peer (r : Fin 3) (c : Dev nD) : peer r (peer r c) = c := by revert r c; decide

/-- The device the signal of round `r` before the exchange goes to, as the kernel computes it. -/
def barDev (r : Fin 3) (d : Dev nD) : Dev nD :=
  match r with
  | 0 => ⟨k0_dev1 d, k0_dev1_lt d⟩
  | 1 => ⟨k0_dev2 d, k0_dev2_lt d⟩
  | 2 => ⟨k0_dev3 d, k0_dev3_lt d⟩
/-- The device the signal of round `r` after the exchange goes to, as the kernel computes it. -/
def endDev (r : Fin 3) (d : Dev nD) : Dev nD :=
  match r with
  | 0 => ⟨k0_dev28 d, k0_dev28_lt d⟩
  | 1 => ⟨k0_dev29 d, k0_dev29_lt d⟩
  | 2 => ⟨k0_dev30 d, k0_dev30_lt d⟩
/-- The device row block `k` of round `r` goes to, as the kernel computes it. -/
def copyDev (r : Fin 3) (k : Fin 8) (d : Dev nD) : Dev nD :=
  match r, k with
  | 0, 0 => ⟨k0_dev4 d, k0_dev4_lt d⟩
  | 0, 1 => ⟨k0_dev5 d, k0_dev5_lt d⟩
  | 0, 2 => ⟨k0_dev6 d, k0_dev6_lt d⟩
  | 0, 3 => ⟨k0_dev7 d, k0_dev7_lt d⟩
  | 0, 4 => ⟨k0_dev8 d, k0_dev8_lt d⟩
  | 0, 5 => ⟨k0_dev9 d, k0_dev9_lt d⟩
  | 0, 6 => ⟨k0_dev10 d, k0_dev10_lt d⟩
  | 0, 7 => ⟨k0_dev11 d, k0_dev11_lt d⟩
  | 1, 0 => ⟨k0_dev12 d, k0_dev12_lt d⟩
  | 1, 1 => ⟨k0_dev13 d, k0_dev13_lt d⟩
  | 1, 2 => ⟨k0_dev14 d, k0_dev14_lt d⟩
  | 1, 3 => ⟨k0_dev15 d, k0_dev15_lt d⟩
  | 1, 4 => ⟨k0_dev16 d, k0_dev16_lt d⟩
  | 1, 5 => ⟨k0_dev17 d, k0_dev17_lt d⟩
  | 1, 6 => ⟨k0_dev18 d, k0_dev18_lt d⟩
  | 1, 7 => ⟨k0_dev19 d, k0_dev19_lt d⟩
  | 2, 0 => ⟨k0_dev20 d, k0_dev20_lt d⟩
  | 2, 1 => ⟨k0_dev21 d, k0_dev21_lt d⟩
  | 2, 2 => ⟨k0_dev22 d, k0_dev22_lt d⟩
  | 2, 3 => ⟨k0_dev23 d, k0_dev23_lt d⟩
  | 2, 4 => ⟨k0_dev24 d, k0_dev24_lt d⟩
  | 2, 5 => ⟨k0_dev25 d, k0_dev25_lt d⟩
  | 2, 6 => ⟨k0_dev26 d, k0_dev26_lt d⟩
  | 2, 7 => ⟨k0_dev27 d, k0_dev27_lt d⟩

theorem barDev_eq (r : Fin 3) (d : Dev nD) : barDev r d = peer r d := by revert r d; decide +kernel
theorem endDev_eq (r : Fin 3) (d : Dev nD) : endDev r d = peer r d := by revert r d; decide +kernel
theorem copyDev_eq (r : Fin 3) (k : Fin 8) (d : Dev nD) : copyDev r k d = peer r d := by
  revert r k d; decide +kernel

/-! ## What is computed -/

/-- Which keys a query attends to. -/
def mask : IVec S256x256 1 := k0_pay5 k0_pay2 (iota .tc S256x256 32 [1] iota_S256x256_d1_w32) 64#32 k0_pay3 k0_pay4

/-- The queries of one batch entry: its rows of the input times the weights. -/
def queries (xs : Vec F S256x512 .bf16) (w : Vec F S512x256 .bf16) : FVec F S256x256 .bf16 :=
  truncf .bf16 (matmul dot_S256x512_S512x256_S256x256_1_0_0_1_n_n none
    (shapeCast S256x512 xs shapeCasts_S256x512_S256x512 : FVec F S256x512 .bf16)
    (shapeCast S512x256 w shapeCasts_S512x256_S512x256 : FVec F S512x256 .bf16)
    (constant S256x256 .f32 0x00000000#32)) bitsLt_bf16_f32

/-- The masked and scaled products of one head's queries with its keys. -/
def scores (q : FVec F S256x64 .bf16) (kk : Vec F S1x256x64 .bf16) : FVec F S256x256 .f32 :=
  select mask
    (mulf (matmul dot_S256x64_S256x64_S256x256_1_1_0_0_n_n none q
        (shapeCast S256x64 kk shapeCasts_S1x256x64_S256x64 : FVec F S256x64 .bf16) (constant S256x256 .f32 0x00000000#32))
      (broadcast S256x256 (Scalar.ofBits .f32 0x3E000000#32)))
    (broadcast S256x256 (Scalar.ofBits .f32 0xCE6E6B28#32))

/-- The exponentials of one head's scores, each row less its largest. -/
def expo (s : FVec F S256x256 .f32) : FVec F S256x256 .f32 :=
  exp (subf s (broadcastTo S256x256
    (shapeCast S256x1 (multiReduction .maximumf [1] S256 s 0xFF800000#32 reduces_S256x256_S256 (.inl rfl) rfl)
      shapeCasts_S256_S256x1) broadcasts_S256x1_S256x256))

/-- One head's attention: each row of exponentials over its sum, times the values. -/
def attend (e : FVec F S256x256 .f32) (vv : Vec F S1x256x64 .bf16) : FVec F S256x64 .bf16 :=
  shapeCast S256x64 (truncf .bf16 (matmul dot_S256x256_S256x64_S256x64_1_0_0_1_n_n none
    (truncf .bf16 (divf e (broadcastTo S256x256
      (shapeCast S256x1 (multiReduction .add [1] S256 e 0x00000000#32 reduces_S256x256_S256 (.inl rfl) rfl)
        shapeCasts_S256_S256x1) broadcasts_S256x1_S256x256)) bitsLt_bf16_f32)
    (shapeCast S256x64 vv shapeCasts_S1x256x64_S256x64 : FVec F S256x64 .bf16)
    (constant S256x64 .f32 0x00000000#32)) bitsLt_bf16_f32) shapeCasts_S256x64_S256x64

/-- Head `h` of the queries. -/
def headOf (h : Fin 4) (qs : FVec F S256x256 .bf16) : FVec F S256x64 .bf16 :=
  extractStridedSlice S256x64 ![0, 64 * h.val] qs (slicesHead h)

/-- The context of head `h`, from all queries of the batch entry and the head's keys and values. -/
def headCtx (h : Fin 4) (qs : FVec F S256x256 .bf16) (kk vv : Vec F S1x256x64 .bf16) : FVec F S256x64 .bf16 :=
  attend (expo (scores (headOf h qs) kk)) vv

/-- The partial result of one batch entry: its context times the weights. -/
def project (cx : Vec F S256x256 .bf16) (w : Vec F S256x512 .bf16) : FVec F S256x512 .f32 :=
  matmul dot_S256x256_S256x512_S256x512_1_0_0_1_n_n none cx
    (shapeCast S256x512 w shapeCasts_S256x512_S256x512 : FVec F S256x512 .bf16) (constant S256x512 .f32 0x00000000#32)

/-- What is sent of half the accumulator in round 0. -/
def sendHalf (o : Vec F S256x512 .f32) : FVec F S1x256x512 .bf16 :=
  shapeCast S1x256x512 (truncf .bf16 (shapeCast S256x512 o shapeCasts_S256x512_S256x512 : FVec F S256x512 .f32)
    bitsLt_bf16_f32) shapeCasts_S256x512_S1x256x512

/-- A row block of the accumulator and the row block received, added. -/
def addRows (o : Vec F S64x512 .f32) (w : Vec F S1x64x512 .bf16) : FVec F S64x512 .f32 :=
  addf (shapeCast S64x512 o shapeCasts_S64x512_S64x512 : FVec F S64x512 .f32)
    (extf .f32 (shapeCast S64x512 w shapeCasts_S1x64x512_S64x512 : FVec F S64x512 .bf16) bitsLt_bf16_f32)

/-- What is sent of a row block in rounds 1 and 2. -/
def sendRows (a : FVec F S64x512 .f32) : FVec F S1x64x512 .bf16 :=
  shapeCast S1x64x512 (truncf .bf16 a bitsLt_bf16_f32) shapeCasts_S64x512_S1x64x512

/-! ## The program -/

section Prog

variable (x : Memref sig .tc .vmem S512x512 .bf16) (wq : Memref sig .tc .vmem S512x256 .bf16)
  (ks vs : Memref sig .tc .vmem S8x256x64 .bf16) (wo : Memref sig .tc .vmem S256x512 .bf16)
  (out : Memref sig .tc .vmem S512x512 .f32)
  (cx : Memref sig .tc .vmem S512x256 .bf16) (hcx : cx.IsWhole)
  (snd : Memref sig .tc .vmem S3x512x512 .bf16) (hsnd : snd.IsWhole)
  (rcv : Memref sig .tc .vmem S3x512x512 .bf16) (hrcv : rcv.IsWhole)
  (sS sR : DmaSems sig S3x8) (ex : Sems sig S_)

/-- Row block `k` of slot `r` of an exchange buffer, as a matrix. -/
abbrev slot (m : Memref sig .tc .vmem S3x512x512 .bf16) (r : Fin 3) (k : Fin 8) : Memref sig .tc .vmem S64x512 .bf16 :=
  (m.slice (slotRect r k) (fun _ => rfl)).squeeze S64x512 squeezes_S1x64x512_S64x512
/-- Entry `(r, k)` of an array of transfer semaphores. -/
abbrev semAt (s : DmaSems sig S3x8) (r : Fin 3) (k : Fin 8) : DmaSem sig :=
  ((s.slice (Rect.unit (s := S3x8) ![r.val, k.val] S1x1.size (inbSem r k))).squeeze S_ squeezes_S1x1_S_).sem

/-- Head `h` of batch entry `b`. -/
def headProg (b : Fin 2) (h : Fin 4) (qs : FVec F S256x256 .bf16) : Prog (TpuEff nD τ sig (Elt F) Λ₀ .tc) PUnit := do
  let kk : Vec F S1x256x64 .bf16 ← Prog.lift (.load ks (kvRect b h).toLoadRect (View.loadsAt_vmem h_S1x256x64))
  let vv : Vec F S1x256x64 .bf16 ← Prog.lift (.load vs (kvRect b h).toLoadRect (View.loadsAt_vmem h_S1x256x64))
  let _old : Vec F S256x64 .bf16 ← Prog.lift (.load cx (headRect b h).toLoadRect (View.loadsAt_vmem h_S256x64))
  Prog.lift (.store cx (headRect b h) (headCtx h qs kk vv) Finset.univ
    (View.stores_vmem h_S256x64 (hcx.storeExact_slice rfl _ (headPacked b h)) (fun _ => rfl)) (.inl rfl))

/-- The partial result of batch entry `b`. -/
def batchProg (b : Fin 2) : Prog (TpuEff nD τ sig (Elt F) Λ₀ .tc) PUnit := do
  let xs : Vec F S256x512 .bf16 ← Prog.lift (.load x (halfRect b).toLoadRect (View.loadsAt_vmem h_S256x512))
  let w : Vec F S512x256 .bf16 ← Prog.lift (.load wq (Rect.unit (s := S512x256) ![0, 0] S512x256.size inb_S512x256_S512x256_0_0).toLoadRect (View.loadsAt_vmem h_S512x256))
  headProg ks vs cx hcx b 0 (queries xs w)
  headProg ks vs cx hcx b 1 (queries xs w)
  headProg ks vs cx hcx b 2 (queries xs w)
  headProg ks vs cx hcx b 3 (queries xs w)
  let c : Vec F S256x256 .bf16 ← Prog.lift (.load cx (ctxRect b).toLoadRect (View.loadsAt_vmem h_S256x256))
  let o : Vec F S256x512 .bf16 ← Prog.lift (.load wo (Rect.unit (s := S256x512) ![0, 0] S256x512.size inb_S256x512_S256x512_0_0).toLoadRect (View.loadsAt_vmem h_S256x512))
  let _old : Vec F S256x512 .f32 ← Prog.lift (.load out (halfRect b).toLoadRect (View.loadsAt_vmem h_S256x512))
  Prog.lift (.store out (halfRect b) (project c o) Finset.univ (View.stores_vmem_bits_univ h_S256x512 rfl) (.inl rfl))

/-- Half the accumulator into slot 0 of the send buffer. -/
def stageHalf (b : Fin 2) : Prog (TpuEff nD τ sig (Elt F) Λ₀ .tc) PUnit := do
  let o : Vec F S256x512 .f32 ← Prog.lift (.load out (halfRect b).toLoadRect (View.loadsAt_vmem h_S256x512))
  let _old : Vec F S1x256x512 .bf16 ← Prog.lift (.load snd (halfSendRect b).toLoadRect (View.loadsAt_vmem h_S1x256x512))
  Prog.lift (.store snd (halfSendRect b) (sendHalf o) Finset.univ
    (View.stores_vmem h_S1x256x512 (hsnd.storeExact_slice rfl _ (halfPacked b)) (fun _ => rfl)) (.inl rfl))

/-- Row block `k` of slot `r` to device `d`. -/
def sendTo (d : Dev nD) (r : Fin 3) (k : Fin 8) : Prog (TpuEff nD τ sig (Elt F) Λ₀ .tc) PUnit :=
  Prog.lift (.enqueueDma (slot snd r k) (.remote (Dev.tc d) (slot rcv r k) (.dma (semAt sS r k)))
    (.dma (semAt sR r k)) ((hsnd.wordExact_slice rfl _ (slotWords r k)).reshape _ _)
    ((hrcv.wordExact_slice rfl _ (slotWords r k)).reshape _ _) ⟨⟨rfl, Or.inl rfl⟩, trivial⟩)
/-- Row block `k` of slot `r` to the peer of round `r`. -/
def startCopy (d : Dev nD) (r : Fin 3) (k : Fin 8) : Prog (TpuEff nD τ sig (Elt F) Λ₀ .tc) PUnit :=
  sendTo snd hsnd rcv hrcv sS sR (copyDev r k d) r k

/-- Row block `k` of round `r` sent and received, and added to the accumulator. -/
def takeRows (r : Fin 3) (k : Fin 8) : Prog (TpuEff nD τ sig (Elt F) Λ₀ .tc) (FVec F S64x512 .f32) := do
  Prog.lift (.waitDma2 (semAt sS r k) (slot rcv r k) (slot snd r k)
    ((hrcv.wordExact_slice rfl _ (slotWords r k)).reshape _ _) ((hsnd.wordExact_slice rfl _ (slotWords r k)).reshape _ _))
  Prog.lift (.waitDma2 (semAt sR r k) (slot snd r k) (slot rcv r k)
    ((hsnd.wordExact_slice rfl _ (slotWords r k)).reshape _ _) ((hrcv.wordExact_slice rfl _ (slotWords r k)).reshape _ _))
  let o : Vec F S64x512 .f32 ← Prog.lift (.load out (rowsRect k).toLoadRect (View.loadsAt_vmem h_S64x512))
  let w : Vec F S1x64x512 .bf16 ← Prog.lift (.load rcv (slotRect r k).toLoadRect (View.loadsAt_vmem h_S1x64x512))
  let _old : Vec F S64x512 .f32 ← Prog.lift (.load out (rowsRect k).toLoadRect (View.loadsAt_vmem h_S64x512))
  Prog.lift (.store out (rowsRect k) (addRows o w) Finset.univ (View.stores_vmem_bits_univ h_S64x512 rfl) (.inl rfl))
  pure (addRows o w)

/-- Row block `k` taken in round `r` and sent on in the next. -/
def hop (d : Dev nD) (r : Fin 2) (k : Fin 8) : Prog (TpuEff nD τ sig (Elt F) Λ₀ .tc) PUnit := do
  let a ← takeRows out snd hsnd rcv hrcv sS sR r.castSucc k
  let _old : Vec F S1x64x512 .bf16 ← Prog.lift (.load snd (slotRect r.succ k).toLoadRect (View.loadsAt_vmem h_S1x64x512))
  Prog.lift (.store snd (slotRect r.succ k) (sendRows a) Finset.univ
    (View.stores_vmem h_S1x64x512 (hsnd.storeExact_slice rfl _ (slotPacked r.succ k)) (fun _ => rfl)) (.inl rfl))
  startCopy snd hsnd rcv hrcv sS sR d r.succ k

/-- A program for each entry of a list, in order. -/
def each {A : Type} (f : A → Prog (TpuEff nD τ sig (Elt F) Λ₀ .tc) PUnit) : List A → Prog (TpuEff nD τ sig (Elt F) Λ₀ .tc) PUnit
  | [] => pure ⟨⟩
  | a :: l => do f a; each f l

/-- A signal to each peer, and the three signals awaited. -/
def meet (dev : Fin 3 → Dev nD) (s : Sem sig) : Prog (TpuEff nD τ sig (Elt F) Λ₀ .tc) PUnit := do
  semSignalWord (dev 0) s 1#32
  semSignalWord (dev 1) s 1#32
  semSignalWord (dev 2) s 1#32
  semWaitWord s 3#32

/-- The whole body. -/
def body : Prog (TpuEff nD τ sig (Elt F) Λ₀ .tc) PUnit := do
  let d : Dev nD ← Prog.lift .deviceId
  batchProg x wq ks vs wo out cx hcx 0
  meet (fun r => barDev r d) (SemArray.scalar (sig.barrier 0 rfl) : Sems sig S_).sem
  stageHalf out snd hsnd 0
  each (startCopy snd hsnd rcv hrcv sS sR d 0) [0, 1, 2, 3]
  batchProg x wq ks vs wo out cx hcx 1
  stageHalf out snd hsnd 1
  each (startCopy snd hsnd rcv hrcv sS sR d 0) [4, 5, 6, 7]
  each (hop out snd hsnd rcv hrcv sS sR d 0) [0, 1, 2, 3, 4, 5, 6, 7]
  each (hop out snd hsnd rcv hrcv sS sR d 1) [0, 1, 2, 3, 4, 5, 6, 7]
  each (fun k => do let _ ← takeRows out snd hsnd rcv hrcv sS sR 2 k; pure ⟨⟩) [0, 1, 2, 3, 4, 5, 6, 7]
  meet (fun r => endDev r d) ex.sem

end Prog

end Cert.KernelIdeal.Talk

end
-- ==== Proof.Sched.lean ====
/- The protocol of the exchange, as a schedule of rounds: for every semaphore who waits on it, who
   raises it, by how much, and what the raise carries.

   * barrier: waited on once by its device for three units, one from each peer. A peer's unit carries
     that peer's receive slots of their common round and that its receive and exit semaphores are live.
   * send (r, k): raised by the device's own copy of row block k in round r; carries the source back.
   * receive (r, k): raised by the copy of the peer of round r; carries the row block as the peer sent it.
   * exit: three units, one from each peer, carrying nothing. -/
module

public import proofs.«01_k».proof.Proof.Body
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

/-! ## The resource algebra: the staging copies' and the exchange's -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

/-! ## The buffers -/

abbrev outM : Memref sig .tc .vmem S512x512 .f32 := Memref.whole cc0_stg5_0
abbrev cxM : Memref sig .tc .vmem S512x256 .bf16 := Memref.whole cc0_scratch0
abbrev sndM : Memref sig .tc .vmem S3x512x512 .bf16 := Memref.whole cc0_scratch1
abbrev rcvM : Memref sig .tc .vmem S3x512x512 .bf16 := Memref.whole cc0_scratch2

/-- Row block `k` of slot `r` of device `c`'s send buffer, at `f`. -/
abbrev sndPts (r : Fin 3) (k : Fin 8) (c : Dev nD) (f : Buf (Elt F) ((slot sndM r k).view.loc (c : Thread nD τ))) : sProp 𝕄 :=
  (slot sndM r k).view.loc (c : Thread nD τ) ↦[(slot sndM r k).view.set]{fullShare} f
/-- Row block `k` of slot `r` of device `c`'s receive buffer, at `f`. -/
abbrev rcvPts (r : Fin 3) (k : Fin 8) (c : Dev nD) (f : Buf (Elt F) ((slot rcvM r k).view.loc (c : Thread nD τ))) : sProp 𝕄 :=
  (slot rcvM r k).view.loc (c : Thread nD τ) ↦[(slot rcvM r k).view.set]{fullShare} f
/-- Row block `k` of device `c`'s accumulator, at `f`. -/
abbrev outPts (k : Fin 8) (c : Dev nD) (f : Buf (Elt F) ((outM.access (rowsRect k)).loc (c : Thread nD τ))) : sProp 𝕄 :=
  (outM.access (rowsRect k)).loc (c : Thread nD τ) ↦[(outM.access (rowsRect k)).set]{fullShare} f

/-- What the receive buffer reads at row block `k` of slot `r`. -/
def RcvReads (r : Fin 3) (k : Fin 8) (c : Dev nD) (f : Buf (Elt F) ((slot rcvM r k).view.loc (c : Thread nD τ)))
    (v : FVec F S1x64x512 .bf16) : Prop := (rcvM.access (slotRect r k)).read (Elt F) f = v

/-- The bytes of one row block, as a transfer counts them. -/
abbrev N : ℕ := (slot rcvM 0 0).view.dmaCredit
theorem N_pos : 0 < N := View.dmaCredit_pos _ (by decide)

/-! ## The semaphores -/

abbrev exS : Sem sig := cc0_scoped0.sem
abbrev barCell (c : Dev nD) : GSem nD τ sig := ((c : Thread nD τ), .reg barrier0)
abbrev exitCell (c : Dev nD) : GSem nD τ sig := ((c : Thread nD τ), .reg exS)
abbrev sendCell (r : Fin 3) (k : Fin 8) (c : Dev nD) : GSem nD τ sig := ((c : Thread nD τ), .dma (semAt cc0_scratch3 r k))
abbrev recvCell (r : Fin 3) (k : Fin 8) (c : Dev nD) : GSem nD τ sig := ((c : Thread nD τ), .dma (semAt cc0_scratch4 r k))

/-- What a semaphore is for. -/
inductive Role
  | bar | send (r : Fin 3) (k : Fin 8) | recv (r : Fin 3) (k : Fin 8) | fin | idle
  deriving DecidableEq

/-- What each semaphore is for, by its number. -/
def role : SemLoc sig → Role
  | .reg s => if s.val = 0 then .bar else .fin
  | .dma s =>
    if h : 6 ≤ s.val ∧ s.val < 30 then .send ⟨(s.val - 6) / 8, by omega⟩ ⟨(s.val - 6) % 8, by omega⟩
    else if h : 30 ≤ s.val ∧ s.val < 54 then .recv ⟨(s.val - 30) / 8, by omega⟩ ⟨(s.val - 30) % 8, by omega⟩
    else .idle

theorem role_bar : role (.reg barrier0) = .bar := by decide
theorem role_exit : role (.reg exS) = .fin := by decide
theorem role_send (r : Fin 3) (k : Fin 8) : role (.dma (semAt cc0_scratch3 r k)) = .send r k := by revert r k; decide
theorem role_recv (r : Fin 3) (k : Fin 8) : role (.dma (semAt cc0_scratch4 r k)) = .recv r k := by revert r k; decide

/-! ## The values exchanged -/

section Sched

variable (part : Dev nD → FVec F S512x512 .f32)

/-- Row block `k` of device `c`'s accumulator before round `r`: its partial result, then what came added on. -/
def acc : ℕ → Fin 8 → Dev nD → FVec F S64x512 .f32
  | 0, k, c => fun i => part c ((rowsRect k).emb i)
  | r + 1, k, c => addRows (acc r k c) (sendRows (acc r k (peer (Fin.ofNat 3 r) c)))

/-- What device `c` sends of row block `k` in round `r`. -/
def sent (r : Fin 3) (k : Fin 8) (c : Dev nD) : FVec F S1x64x512 .bf16 := sendRows (acc part r.val k c)

theorem acc_zero (k : Fin 8) (c : Dev nD) : acc part 0 k c = fun i => part c ((rowsRect k).emb i) := rfl
theorem acc_succ (r : Fin 3) (k : Fin 8) (c : Dev nD) :
    acc part (r.val + 1) k c = addRows (acc part r.val k c) (sent part r k (peer r c)) := by
  show addRows _ (sendRows (acc part r.val k (peer (Fin.ofNat 3 r.val) c))) = _
  rw [show Fin.ofNat 3 r.val = r from Fin.ext (Nat.mod_eq_of_lt r.isLt)]; rfl

/-! ## The schedule -/

/-- What the peer of round `d` hands to device `c` before the exchange: its receive slots of that round, and that its
    receive semaphores of the round and its exit semaphore are live. -/
def barPay (c : Dev nD) (d : Fin 3) : sProp 𝕄 :=
  iprop((bigSep Finset.univ fun k : Fin 8 => iprop((∃ f, rcvPts d k (peer d c) f) ∗ reached ER (recvCell d k (peer d c)) 0))
    ∗ reached ER (exitCell (peer d c)) 0)
/-- A row block of the send buffer, given back. -/
def sendPay (r : Fin 3) (k : Fin 8) (c : Dev nD) : sProp 𝕄 := iprop(∃ f, sndPts r k c f)
/-- A row block received: it reads what the peer sent. -/
def recvPay (r : Fin 3) (k : Fin 8) (c : Dev nD) : sProp 𝕄 :=
  iprop(∃ f, ⌜RcvReads r k c f (sent part r k (peer r c))⌝ ∗ rcvPts r k c f)

instance recvPay_storable (r : Fin 3) (k : Fin 8) (c : Dev nD) : BI.Storable (upEmb : UEmb _ 𝕄) (recvPay part r k c) := by
  unfold recvPay
  have h (f : Buf (Elt F) ((slot rcvM r k).view.loc (c : Thread nD τ))) : BI.Storable (upEmb : UEmb _ 𝕄) (rcvPts r k c f) := inferInstance
  exact @BI.Storable.exists _ _ _ _ _ _ _ _ fun f => @BI.Storable.sep _ _ _ _ _ _ _ _ (BI.Storable.pure _ _) (h f)

def dutiesOf : Role → Finset (Fin 3)
  | .bar => Finset.univ
  | .send _ _ => {0}
  | .recv r _ => {r}
  | .fin => Finset.univ
  | .idle => ∅
def amountOf : Role → ℕ
  | .send _ _ => N
  | .recv _ _ => N
  | _ => 1
def payOf (c : Dev nD) (d : Fin 3) : Role → sProp 𝕄
  | .bar => barPay c d
  | .send r k => sendPay r k c
  | .recv r k => recvPay part r k c
  | _ => iprop(emp)

def Rd : Rounds.Schedule (GSem nD τ sig) (Fin 3) 𝕄 where
  duties g r := if r = 0 ∧ g.1.2 = .tc then dutiesOf (role g.2) else ∅
  unitless _ := False
  amount g _ _ := amountOf (role g.2)
  payload g _ d := payOf part g.1.1 d (role g.2)
  amount_pos g _ _ _ := by
    unfold amountOf; split <;> first | exact N_pos | exact Nat.one_pos

instance payload_storable (g : GSem nD τ sig) (r : ℕ) (d : Fin 3) :
    BI.Storable (upEmb : UEmb _ 𝕄) ((Rd part).payload g r d) := by
  show BI.Storable upEmb (payOf part g.1.1 d (role g.2))
  unfold payOf barPay sendPay
  split <;> infer_instance

theorem duties_at (c : Dev nD) (sm : SemLoc sig) : (Rd part).duties ((c : Thread nD τ), sm) 0 = dutiesOf (role sm) := by
  dsimp only [Rd]; exact if_pos ⟨rfl, rfl⟩
theorem duties_later (g : GSem nD τ sig) : ∀ r, 1 ≤ r → (Rd part).duties g r = ∅ :=
  fun r hr => by dsimp only [Rd]; exact if_neg (fun h => by omega)
theorem amount_at (c : Dev nD) (sm : SemLoc sig) (d : Fin 3) : (Rd part).amount ((c : Thread nD τ), sm) 0 d = amountOf (role sm) := rfl
theorem payload_at (c : Dev nD) (sm : SemLoc sig) (d : Fin 3) : (Rd part).payload ((c : Thread nD τ), sm) 0 d = payOf part c d (role sm) := rfl

variable (c : Dev nD) (r : Fin 3) (k : Fin 8)

theorem duties_bar : (Rd part).duties (barCell c) 0 = Finset.univ := by rw [duties_at, role_bar]; rfl
theorem duties_exit : (Rd part).duties (exitCell c) 0 = Finset.univ := by rw [duties_at, role_exit]; rfl
theorem duties_send : (Rd part).duties (sendCell r k c) 0 = {0} := by rw [duties_at, role_send]; rfl
theorem duties_recv : (Rd part).duties (recvCell r k c) 0 = {r} := by rw [duties_at, role_recv]; rfl

theorem amount_bar (d : Fin 3) : (Rd part).amount (barCell c) 0 d = 1 := by rw [amount_at, role_bar]; rfl
theorem amount_exit (d : Fin 3) : (Rd part).amount (exitCell c) 0 d = 1 := by rw [amount_at, role_exit]; rfl
theorem amount_send (d : Fin 3) : (Rd part).amount (sendCell r k c) 0 d = N := by rw [amount_at, role_send]; rfl
theorem amount_recv (d : Fin 3) : (Rd part).amount (recvCell r k c) 0 d = N := by rw [amount_at, role_recv]; rfl

theorem payload_bar (d : Fin 3) : (Rd part).payload (barCell c) 0 d = barPay c d := by rw [payload_at, role_bar]; rfl
theorem payload_exit (d : Fin 3) : (Rd part).payload (exitCell c) 0 d = iprop(emp) := by rw [payload_at, role_exit]; rfl
theorem payload_send (d : Fin 3) : (Rd part).payload (sendCell r k c) 0 d = sendPay r k c := by rw [payload_at, role_send]; rfl
theorem payload_recv (d : Fin 3) : (Rd part).payload (recvCell r k c) 0 d = recvPay part r k c := by rw [payload_at, role_recv]; rfl

theorem expect_bar : (Rd part).expect (barCell c) 0 = 3 := by
  unfold Schedule.expect Schedule.amountOf; rw [duties_bar, Finset.sum_congr rfl fun d _ => amount_bar part c d]; decide
theorem expect_exit : (Rd part).expect (exitCell c) 0 = 3 := by
  unfold Schedule.expect Schedule.amountOf; rw [duties_exit, Finset.sum_congr rfl fun d _ => amount_exit part c d]; decide
theorem expect_send : (Rd part).expect (sendCell r k c) 0 = N := by
  unfold Schedule.expect Schedule.amountOf; rw [duties_send, Finset.sum_singleton, amount_send]
theorem expect_recv : (Rd part).expect (recvCell r k c) 0 = N := by
  unfold Schedule.expect Schedule.amountOf; rw [duties_recv, Finset.sum_singleton, amount_recv]

theorem rest_bar : bigSep ((Rd part).duties (barCell c) 0 \ ∅) (fun d => (Rd part).payload (barCell c) 0 d)
    = bigSep Finset.univ fun d => barPay (F := F) c d := by
  rw [Finset.sdiff_empty, duties_bar]; exact bigSep_congr fun d _ => payload_bar part c d
theorem rest_send : bigSep ((Rd part).duties (sendCell r k c) 0 \ ∅) (fun d => (Rd part).payload (sendCell r k c) 0 d) = sendPay r k c := by
  rw [Finset.sdiff_empty, duties_send, bigSep_singleton, payload_send]
theorem rest_recv : bigSep ((Rd part).duties (recvCell r k c) 0 \ ∅) (fun d => (Rd part).payload (recvCell r k c) 0 d) = recvPay part r k c := by
  rw [Finset.sdiff_empty, duties_recv, bigSep_singleton, payload_recv]

end Sched

/-! ## What a device owes, and in which order it may wait -/

/-- Raises owed, the next one first. -/
def owed : List (GSem nD τ sig × ℕ) → CellTallies nD τ sig Unit
  | [] => 0
  | x :: l => owed l + tallyAt x.1 () x.2

def rows : List (Fin 8) := [0, 1, 2, 3, 4, 5, 6, 7]

/-- The raises of round `r` that device `c` owes to its peer of the round, for the row blocks `l`. -/
def copies (c : Dev nD) (r : Fin 3) (l : List (Fin 8)) : List (GSem nD τ sig × ℕ) := l.map fun k => (recvCell r k (peer r c), N)
def bars (c : Dev nD) : List (GSem nD τ sig × ℕ) := ([0, 1, 2] : List (Fin 3)).map fun r => (barCell (peer r c), 1)
def exits (c : Dev nD) : List (GSem nD τ sig × ℕ) := ([0, 1, 2] : List (Fin 3)).map fun r => (exitCell (peer r c), 1)

/-- All a device owes, in the order in which it pays. -/
def dues (c : Dev nD) : List (GSem nD τ sig × ℕ) :=
  bars c ++ (copies c 0 rows ++ (copies c 1 rows ++ (copies c 2 rows ++ exits c)))

def L (g : GSem nD τ sig) : Finset Unit := if g.1.2 = .tc then {()} else ∅
def level : Role → ℕ
  | .bar => 1
  | .recv r _ => 2 + r.val
  | .fin => 5
  | _ => 0
def lv (g : GSem nD τ sig) (_ : Unit) : ℕ := level (role g.2)

theorem L_of_ne (g : GSem nD τ sig) (h : g.1.2 ≠ .tc) : L g = ∅ := if_neg h
theorem L_tc (c : Dev nD) (sm : SemLoc sig) : L ((c : Thread nD τ), sm) = {()} := if_pos rfl

theorem owed_pos {l : List (GSem nD τ sig × ℕ)} {g : GSem nD τ sig} {u : Unit} (h : 0 < owed l g u) : ∃ x ∈ l, x.1 = g := by
  induction l with
  | nil => exact absurd h (Nat.lt_irrefl 0)
  | cons x l ih =>
    by_cases hx : x.1 = g
    · exact ⟨x, .head _, hx⟩
    · have : (owed (x :: l)) g u = owed l g u := by
        show owed l g u + tallyAt x.1 () x.2 g u = _
        rw [tallyAt_ne_cell (fun h => hx h.symm)]; rfl
      rw [this] at h
      obtain ⟨y, hy, e⟩ := ih h
      exact ⟨y, .tail _ hy, e⟩

/-- A device may wait on a semaphore below all it still owes. -/
theorem mayWait_owed (c : Dev nD) (sm : SemLoc sig) (l : List (GSem nD τ sig × ℕ))
    (h : ∀ x ∈ l, x.1.1.2 = .tc ∧ level (role sm) < level (role x.1.2)) :
    (levAts L lv : sProp 𝕄) ⊢ MayWait (c : Thread nD τ) sm () (owed l) :=
  MayOwe.of_cut (L := L) (lev := lv) (level (role sm))
    (fun p hp => by rw [Finset.mem_singleton.mp hp, L_tc]; exact Finset.mem_singleton_self _)
    (fun g u hg => by
      obtain ⟨x, hx, rfl⟩ := owed_pos hg
      unfold L; rw [if_pos (h x hx).1]; exact Finset.mem_singleton_self _)
    (fun p hp => by rw [Finset.mem_singleton.mp hp]; exact le_refl _)
    (fun g u hg => by
      obtain ⟨x, hx, rfl⟩ := owed_pos hg
      exact (h x hx).2)

end Cert.KernelIdeal.Talk

end
-- ==== Proof.Steps.lean ====
/- One row block's way through a round: started, taken, and sent on; and a meeting of a device with
   its three peers. Each step is run once, at any device, round and row block. -/
module

public import proofs.«01_k».proof.Proof.Sched
public import Idealize.ShloMosaic.Lib.ViewIndex

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-! ## The cells and what all devices know -/

/-- A device's semaphores that live only for the call: exit, send, receive. -/
abbrev OwnSem : Type := Unit ⊕ ((Fin 3 × Fin 8) ⊕ (Fin 3 × Fin 8))
def osem : OwnSem → SemLoc sig
  | .inl _ => .reg exS
  | .inr (.inl p) => .dma (semAt cc0_scratch3 p.1 p.2)
  | .inr (.inr p) => .dma (semAt cc0_scratch4 p.1 p.2)

theorem osem_inj : Function.Injective osem := by decide +kernel
theorem osem_ne_bar : ∀ s, osem s ≠ .reg barrier0 := by decide +kernel

def barEmb : Dev nD ↪ GSem nD τ sig := ⟨fun c => barCell c, fun _ _ h => congrArg (fun g : GSem nD τ sig => g.1.1) h⟩
def ownEmb : Dev nD × OwnSem ↪ GSem nD τ sig :=
  ⟨fun x => ((x.1 : Thread nD τ), osem x.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb
abbrev cells : Finset (GSem nD τ sig) := barCells ∪ ownCells

theorem bar_mem (c : Dev nD) : barCell c ∈ cells := Finset.mem_union_left _ (Finset.mem_map_of_mem barEmb (Finset.mem_univ c))
theorem own_mem (c : Dev nD) (s : OwnSem) : ((c : Thread nD τ), osem s) ∈ cells :=
  Finset.mem_union_right _ (Finset.mem_map_of_mem ownEmb (Finset.mem_univ (c, s)))
theorem exit_mem (c : Dev nD) : exitCell c ∈ cells := own_mem c (.inl ())
theorem send_mem (r : Fin 3) (k : Fin 8) (c : Dev nD) : sendCell r k c ∈ cells := own_mem c (.inr (.inl (r, k)))
theorem recv_mem (r : Fin 3) (k : Fin 8) (c : Dev nD) : recvCell r k c ∈ cells := own_mem c (.inr (.inr (r, k)))

variable (part : Dev nD → FVec F S512x512 .f32) (K : GSem nD τ sig → ℕ)

/-- The protocol holds at every semaphore of every device. -/
def known : sProp 𝕄 := bigSep cells fun g => cellInv ER (Rd part) (K g) g
instance known_persistent : BI.Persistent (known part K) := by unfold known; infer_instance
theorem known_at {g : GSem nD τ sig} (hg : g ∈ cells) : known part K ⊢ cellInv ER (Rd part) (K g) g := bigSep_elim hg

/-! ## The states of a row block -/

/-- What the send buffer reads at row block `k` of slot `r`. -/
def SndReads (r : Fin 3) (k : Fin 8) (c : Dev nD) (f : Buf (Elt F) ((slot sndM r k).view.loc (c : Thread nD τ)))
    (v : FVec F S1x64x512 .bf16) : Prop := (sndM.access (slotRect r k)).read (Elt F) f = v
/-- What the accumulator reads at row block `k`. -/
def OutReads (k : Fin 8) (c : Dev nD) (f : Buf (Elt F) ((outM.access (rowsRect k)).loc (c : Thread nD τ)))
    (v : FVec F S64x512 .f32) : Prop := (outM.access (rowsRect k)).read (Elt F) f = v

variable (r : Fin 3) (k : Fin 8) (c : Dev nD)

/-- Nothing of round `r` has happened to row block `k`. -/
def Ready : sProp 𝕄 :=
  iprop(atPos ER (sendCell r k c) 0 ∅ 0 ∗ atPos ER (recvCell r k c) 0 ∅ 0 ∗ reached ER (sendCell r k c) 0
    ∗ cred (tallyAt (recvCell r k c) () N) ∗ dutyTok ER (sendCell r k c) 0 0 ∗ dutyTok ER (recvCell r k (peer r c)) 0 r)
/-- Where row block `k` goes in round `r`. -/
def Dest : sProp 𝕄 := iprop((∃ f, rcvPts r k (peer r c) f) ∗ reached ER (recvCell r k (peer r c)) 0)
/-- A row block of the send buffer, holding what is to be sent. -/
def SendAt : sProp 𝕄 := iprop(∃ f, ⌜SndReads r k c f (sent part r k c)⌝ ∗ sndPts r k c f)
/-- Row block `k` is on its way in round `r`. -/
def Flying : sProp 𝕄 :=
  iprop(cred (tallyAt (sendCell r k c) () N) ∗ atPos ER (sendCell r k c) 0 ∅ 0 ∗ atPos ER (recvCell r k c) 0 ∅ 0
    ∗ cred (tallyAt (recvCell r k c) () N))
/-- Round `r` is over for row block `k`: both semaphores waited out, both slots back. -/
def Done : sProp 𝕄 :=
  iprop(atPos ER (sendCell r k c) (0 + 1) ∅ 0 ∗ atPos ER (recvCell r k c) (0 + 1) ∅ 0 ∗ (∃ f, sndPts r k c f) ∗ (∃ f, rcvPts r k c f))
/-- Row block `k` of the accumulator before round `n`. -/
def OutAt (n : ℕ) : sProp 𝕄 := iprop(∃ f, ⌜OutReads k c f (acc part n k c)⌝ ∗ outPts k c f)

theorem slot_set (m : Memref sig .tc .vmem S3x512x512 .bf16) : (slot m r k).view.set = (m.access (slotRect r k)).set :=
  View.set_reshape ..

/-- A row block copied from slot to slot is read there as it was here. -/
theorem landed (c' : Dev nD) (fs : Buf (Elt F) ((slot sndM r k).view.loc (c : Thread nD τ)))
    (fd : Buf (Elt F) ((slot rcvM r k).view.loc (c' : Thread nD τ))) (v : FVec F S1x64x512 .bf16) (h : SndReads r k c fs v) :
    RcvReads r k c' ((slot rcvM r k).view.write (Elt F) fd ((slot sndM r k).view.read (Elt F) fs) Finset.univ) v := by
  unfold RcvReads; unfold SndReads at h
  subst h
  funext x
  obtain ⟨y, rfl⟩ := (Shape.reshapeEquiv (squeezes_S1x64x512_S64x512.numel_eq)).surjective x
  exact View.read_write_reshape (v := rcvM.access (slotRect r k)) _ fd _ y

/-! ## Starting a copy -/

theorem start_wp (hsnd : sndM.IsWhole) (hrcv : rcvM.IsWhole) (l : List (GSem nD τ sig × ℕ)) (W : Waits sig Unit) (Kt : PUnit → sProp 𝕄) :
    iprop(known part K ∗ Ready r k c ∗ Dest r k c ∗ SendAt part r k c
        ∗ owes (c : Thread nD τ) (owed ((recvCell r k (peer r c), N) :: l)) W
        ∗ ((Flying r k c ∗ owes (c : Thread nD τ) (owed l) W) -∗ Kt ⟨⟩))
      ⊢ wp frame (wpE (defs₀ (F := F)) 𝒱₀ (c : Thread nD τ) none) Set.univ
          (startCopy (F := F) sndM hsnd rcvM hrcv cc0_scratch3 cc0_scratch4 c r k) Kt := by
  unfold startCopy
  rw [copyDev_eq]; unfold sendTo
  show _ ⊢ wp frame _ _ (.op _ .ret) Kt
  unfold Ready Dest SendAt Flying
  iintro ⟨#HI, ⟨HaS, HaR, #HrS, HcR, HtS, HtR⟩, ⟨⟨%fd, Hd⟩, #HrR⟩, ⟨%fs, %hfs, Hs⟩, HO, Hk⟩
  iapply (Rounds.wp_send_pointsTo 𝒱₀ ER (Rd part) (c : Thread nD τ) none (c' := (peer r c : Thread nD τ)) (src := slot sndM r k) (dst := slot rcvM r k)
      (sS := .dma (semAt cc0_scratch3 r k)) (sem := .dma (semAt cc0_scratch4 r k)) (q := fullShare) (fs := fs)
      (κ₁ := K (sendCell r k c)) (κ₂ := K (recvCell r k (peer r c)))
      (r₁ := 0) (r₂ := 0) (d₁ := 0) (d₂ := r) (fd := fd)
      (by rw [duties_send]; exact Finset.mem_singleton_self _) (by rw [duties_recv]; exact Finset.mem_singleton_self _)
      () () N rfl (amount_send part c r k 0) (amount_recv part (peer r c) r k r) (owed l) rfl (W := W)
      (by rw [payload_send]; unfold sendPay; iintro H; iexists fs; iexact H)
      (by
        rw [payload_recv]; unfold recvPay; rw [peer_peer]
        iintro H
        iexists ((slot rcvM r k).view.write (Elt F) fd ((slot sndM r k).view.read (Elt F) fs) Finset.univ)
        isplitr
        · ipureintro; exact landed r k c (peer r c) fs fd _ hfs
        iexact H)) $$ [Hs Hd HO HtS HtR]
  · isplitr; · iapply (known_at part K (send_mem r k c)); iexact HI
    isplitr; · iapply (known_at part K (recv_mem r k (peer r c))); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  rw [wp_ret]
  imodintro
  iapply Hk
  isplitr [HO]
  · isplitl [HcS]; · iexact HcS
    isplitl [HaS]; · iexact HaS
    isplitl [HaR]; · iexact HaR
    iexact HcR
  iexact HO

/-! ## Taking a row block -/

theorem take_wp (hsnd : sndM.IsWhole) (hrcv : rcvM.IsWhole) (l : List (GSem nD τ sig × ℕ))
    (hl : ∀ x ∈ l, x.1.1.2 = .tc ∧ 2 + r.val < level (role x.1.2)) (W : Waits sig Unit) (Kt : FVec F S64x512 .f32 → sProp 𝕄) :
    iprop(known part K ∗ levAts L lv ∗ Flying r k c ∗ OutAt part k c r.val ∗ owes (c : Thread nD τ) (owed l) W
        ∗ ((Done r k c ∗ OutAt part k c (r.val + 1) ∗ ∃ W', owes (c : Thread nD τ) (owed l) W') -∗ Kt (acc part (r.val + 1) k c)))
      ⊢ wp frame (wpE (defs₀ (F := F)) 𝒱₀ (c : Thread nD τ) none) Set.univ
          (takeRows (F := F) outM sndM hsnd rcvM hrcv cc0_scratch3 cc0_scratch4 r k) Kt := by
  unfold takeRows
  show _ ⊢ wp frame _ _ (.op _ fun _ => .op _ fun _ => .op _ fun _ => .op _ fun _ => .op _ fun _ => .op _ fun _ => .ret _) Kt
  unfold Flying OutAt Done
  iintro ⟨#HI, #Hlev, ⟨HcS, HaS, HaR, HcR⟩, ⟨%fo, %hfo, Ho⟩, HO, Hk⟩
  iapply (Rounds.wp_wait_rest_token 𝒱₀ ER (Rd part) (c : Thread nD τ) none (κ := K (sendCell r k c))
      (wpE_waitDma2_eq (src := slot rcvM r k) (dst := slot sndM r k) 𝒱₀ (c : Thread nD τ) none Set.univ) (Set.mem_univ _) () (O := owed l) (W := W) (R := 0) (m := 0) (T := ∅)
      ((Nat.zero_add _).trans (expect_send part c r k).symm)) $$ [HcS HO HaS]
  · isplitr; · iapply (known_at part K (send_mem r k c)); iexact HI
    isplitl [HcS]; · iexact HcS
    isplitl [HO]; · iexact HO
    isplitr
    · iapply (mayWait_owed c (.dma (semAt cc0_scratch3 r k)) l fun x hx => ⟨(hl x hx).1, by
        rw [role_send]; exact lt_of_le_of_lt (Nat.zero_le _) (hl x hx).2⟩)
      iexact Hlev
    iexact HaS
  iintro ⟨HO, HaS, -, Hpay⟩
  ihave Hs := (Entails.of_eq (rest_send part c r k)) $$ Hpay
  unfold sendPay
  iapply (Rounds.wp_wait_rest_token 𝒱₀ ER (Rd part) (c : Thread nD τ) none (κ := K (recvCell r k c))
      (wpE_waitDma2_eq (src := slot sndM r k) (dst := slot rcvM r k) 𝒱₀ (c : Thread nD τ) none Set.univ) (Set.mem_univ _) () (O := owed l)
      (W := insert (SemLoc.dma (semAt cc0_scratch3 r k), ()) W) (R := 0) (m := 0) (T := ∅)
      ((Nat.zero_add _).trans (expect_recv part c r k).symm)) $$ [HcR HO HaR]
  · isplitr; · iapply (known_at part K (recv_mem r k c)); iexact HI
    isplitl [HcR]; · iexact HcR
    isplitl [HO]; · iexact HO
    isplitr
    · iapply (mayWait_owed c (.dma (semAt cc0_scratch4 r k)) l fun x hx => ⟨(hl x hx).1, by rw [role_recv]; exact (hl x hx).2⟩)
      iexact Hlev
    iexact HaR
  iintro ⟨HO, HaR, -, Hpay⟩
  ihave Hr := (Entails.of_eq (rest_recv part c r k)) $$ Hpay
  unfold recvPay
  icases Hr with ⟨%fr, %hfr, Hr⟩
  iapply (wp_load_rect 𝒱₀ (c : Thread nD τ) none Set.univ (m := outM) (r := rowsRect k) (S := (outM.access (rowsRect k)).set) (f := fo) subset_rfl) $$ Ho
  iintro Ho
  iapply (wp_load_rect 𝒱₀ (c : Thread nD τ) none Set.univ (m := rcvM) (r := slotRect r k) (S := (slot rcvM r k).view.set) (f := fr)
    (slot_set r k rcvM).ge) $$ Hr
  iintro Hr
  iapply (wp_load_rect 𝒱₀ (c : Thread nD τ) none Set.univ (m := outM) (r := rowsRect k) (S := (outM.access (rowsRect k)).set) (f := fo) subset_rfl) $$ Ho
  iintro Ho
  unfold OutReads at hfo
  unfold RcvReads at hfr
  rw [hfo, hfr, ← acc_succ]
  iapply (wp_store 𝒱₀ (c : Thread nD τ) none Set.univ (m := outM) (r := rowsRect k) (S := (outM.access (rowsRect k)).set) (f := fo) subset_rfl) $$ Ho
  iintro Ho
  rw [wp_ret]
  imodintro
  iapply Hk
  isplitl [HaS HaR Hs Hr]
  · isplitl [HaS]; · iexact HaS
    isplitl [HaR]; · iexact HaR
    isplitl [Hs]; · iexact Hs
    iexists fr; iexact Hr
  isplitl [Ho]
  · iexists ((outM.access (rowsRect k)).write (Elt F) fo (acc part (r.val + 1) k c) Finset.univ)
    isplitr
    · ipureintro; exact View.read_write_univ ..
    iexact Ho
  iexists _; iexact HO

theorem hop_wp (hsnd : sndM.IsWhole) (hrcv : rcvM.IsWhole) (r : Fin 2) (l : List (GSem nD τ sig × ℕ))
    (hl : ∀ x ∈ l, x.1.1.2 = .tc ∧ 2 + r.val < level (role x.1.2)) (W : Waits sig Unit) (Kt : PUnit → sProp 𝕄) :
    iprop(known part K ∗ levAts L lv
        ∗ (Flying r.castSucc k c ∗ OutAt part k c r.castSucc.val ∗ (∃ f, sndPts r.succ k c f) ∗ Ready r.succ k c ∗ Dest r.succ k c)
        ∗ owes (c : Thread nD τ) (owed ((recvCell r.succ k (peer r.succ c), N) :: l)) W
        ∗ (((Done r.castSucc k c ∗ OutAt part k c r.succ.val ∗ Flying r.succ k c) ∗ ∃ W', owes (c : Thread nD τ) (owed l) W') -∗ Kt ⟨⟩))
      ⊢ wp frame (wpE (defs₀ (F := F)) 𝒱₀ (c : Thread nD τ) none) Set.univ
          (hop (F := F) outM sndM hsnd rcvM hrcv cc0_scratch3 cc0_scratch4 c r k) Kt := by
  unfold hop
  show _ ⊢ wp frame _ _ (takeRows outM sndM hsnd rcvM hrcv cc0_scratch3 cc0_scratch4 r.castSucc k >>= fun _ =>
    .op _ fun _ => .op _ fun _ => startCopy sndM hsnd rcvM hrcv cc0_scratch3 cc0_scratch4 c r.succ k) Kt
  rw [wp_bind]
  iintro ⟨#HI, #Hlev, ⟨Hf, Ho, ⟨%fs, Hs⟩, Hr, Hd⟩, HO, Hk⟩
  iapply (take_wp part K r.castSucc k c hsnd hrcv ((recvCell r.succ k (peer r.succ c), N) :: l) (fun x hx => by
    rcases List.mem_cons.mp hx with rfl | hx
    · exact ⟨rfl, by rw [role_recv]; show 2 + r.val < 2 + (r.val + 1); omega⟩
    · exact hl x hx) W)
  isplitr; · iexact HI
  isplitr; · iexact Hlev
  isplitl [Hf]; · iexact Hf
  isplitl [Ho]; · iexact Ho
  isplitl [HO]; · iexact HO
  iintro ⟨Hdone, Ho, ⟨%W', HO⟩⟩
  iapply (wp_load_rect 𝒱₀ (c : Thread nD τ) none Set.univ (m := sndM) (r := slotRect r.succ k) (S := (slot sndM r.succ k).view.set) (f := fs)
    (slot_set r.succ k sndM).ge) $$ Hs
  iintro Hs
  iapply (wp_store 𝒱₀ (c : Thread nD τ) none Set.univ (m := sndM) (r := slotRect r.succ k) (S := (slot sndM r.succ k).view.set) (f := fs)
    (slot_set r.succ k sndM).ge) $$ Hs
  iintro Hs
  iapply (start_wp part K r.succ k c hsnd hrcv l W')
  isplitr; · iexact HI
  isplitl [Hr]; · iexact Hr
  isplitl [Hd]; · iexact Hd
  isplitl [Hs]
  · unfold SendAt
    iexists ((sndM.access (slotRect r.succ k)).write (Elt F) fs (sent part r.succ k c) Finset.univ)
    isplitr
    · ipureintro; exact View.read_write_univ ..
    iexact Hs
  isplitl [HO]; · iexact HO
  iintro ⟨Hf, HO⟩
  iapply Hk
  isplitr [HO]
  · isplitl [Hdone]; · iexact Hdone
    isplitl [Ho]; · iexact Ho
    iexact Hf
  iexists W'; iexact HO

/-! ## Meeting the peers -/

/-- The semaphore `s` of device `c`. -/
abbrev regCell (s : Sem sig) (c : Dev nD) : GSem nD τ sig := ((c : Thread nD τ), .reg s)

/-- What a device needs to signal the peer of round `d` at semaphore `s`. -/
def Call (s : Sem sig) (d : Fin 3) : sProp 𝕄 :=
  iprop(dutyTok ER (regCell s (peer d c)) 0 d ∗ (Rd part).payload (regCell s (peer d c)) 0 d ∗ reached ER (regCell s (peer d c)) 0)

theorem call_wp (s : Sem sig) (hs : dutiesOf (role (.reg s)) = Finset.univ) (ha : amountOf (role (.reg s)) = 1)
    (hm : ∀ c, regCell s c ∈ cells) (d : Fin 3) (l : List (GSem nD τ sig × ℕ)) (W : Waits sig Unit) (Kt : PUnit → sProp 𝕄) :
    iprop(known part K ∗ Call part c s d ∗ owes (c : Thread nD τ) (owed ((regCell s (peer d c), 1) :: l)) W
        ∗ (owes (c : Thread nD τ) (owed l) W -∗ Kt ⟨⟩))
      ⊢ wp frame (wpE (defs₀ (F := F)) 𝒱₀ (c : Thread nD τ) none) Set.univ (semSignalWord (peer d c) s 1#32) Kt := by
  unfold semSignalWord Call
  iintro ⟨#HI, ⟨Ht, Hp, #Hr⟩, HO, Hk⟩
  iapply (Rounds.wp_signal 𝒱₀ ER (Rd part) (c : Thread nD τ) none (dst := (peer d c : Thread nD τ)) (sem := s) (r := 0) (d := d)
      (k' := 1) (κ := K (regCell s (peer d c))) (by rw [duties_at, hs]; exact Finset.mem_univ d) ((amount_at part (peer d c) (.reg s) d).trans ha) () (owed l) rfl)
    $$ [HO Ht Hp]
  · isplitr; · iapply (known_at part K (hm (peer d c))); iexact HI
    isplitl [HO]; · iexact HO
    isplitl [Ht]; · iexact Ht
    isplitl [Hp]; · iexact Hp
    iexact Hr
  iintro HO
  rw [wp_ret]
  imodintro
  iapply Hk
  iexact HO

theorem meet_wp (s : Sem sig) (hs : dutiesOf (role (.reg s)) = Finset.univ) (ha : amountOf (role (.reg s)) = 1)
    (hm : ∀ c, regCell s c ∈ cells) (l : List (GSem nD τ sig × ℕ))
    (hl : ∀ x ∈ l, x.1.1.2 = .tc ∧ level (role (.reg s)) < level (role x.1.2)) (W : Waits sig Unit) (Kt : PUnit → sProp 𝕄) :
    iprop(known part K ∗ levAts L lv ∗ (Call part c s 0 ∗ Call part c s 1 ∗ Call part c s 2)
        ∗ atPos ER (regCell s c) 0 ∅ 0 ∗ cred (tallyAt (regCell s c) () 3)
        ∗ owes (c : Thread nD τ) (owed (([0, 1, 2] : List (Fin 3)).map (fun d => (regCell s (peer d c), 1)) ++ l)) W
        ∗ ((atPos ER (regCell s c) (0 + 1) ∅ 0 ∗ bigSep Finset.univ (fun d => (Rd part).payload (regCell s c) 0 d)
            ∗ ∃ W', owes (c : Thread nD τ) (owed l) W') -∗ Kt ⟨⟩))
      ⊢ wp frame (wpE (defs₀ (F := F)) 𝒱₀ (c : Thread nD τ) none) Set.univ (meet (fun d => peer d c) s) Kt := by
  unfold meet
  rw [wp_bind]
  iintro ⟨#HI, #Hlev, ⟨H0, H1, H2⟩, Hat, Hc, HO, Hk⟩
  iapply (call_wp part K c s hs ha hm 0)
  isplitr; · iexact HI
  isplitl [H0]; · iexact H0
  isplitl [HO]; · iexact HO
  iintro HO
  rw [wp_bind]
  iapply (call_wp part K c s hs ha hm 1)
  isplitr; · iexact HI
  isplitl [H1]; · iexact H1
  isplitl [HO]; · iexact HO
  iintro HO
  rw [wp_bind]
  iapply (call_wp part K c s hs ha hm 2)
  isplitr; · iexact HI
  isplitl [H2]; · iexact H2
  isplitl [HO]; · iexact HO
  iintro HO
  unfold semWaitWord
  iapply (Rounds.wp_wait_rest_token 𝒱₀ ER (Rd part) (c : Thread nD τ) none (κ := K (regCell s c)) (k' := 3)
      (wpE_semWait_eq 𝒱₀ (c : Thread nD τ) none Set.univ) (Set.mem_univ _) () (O := owed l) (W := W) (R := 0) (m := 0) (T := ∅)
      (by
        unfold Schedule.expect Schedule.amountOf
        rw [duties_at, hs, Finset.sum_congr rfl fun d _ => (amount_at part c (.reg s) d).trans ha]; rfl)) $$ [Hc HO Hat]
  · isplitr; · iapply (known_at part K (hm c)); iexact HI
    isplitl [Hc]; · iexact Hc
    isplitl [HO]; · iexact HO
    isplitr; · iapply (mayWait_owed c (.reg s) l hl); iexact Hlev
    iexact Hat
  iintro ⟨HO, Hat, -, Hpay⟩
  rw [wp_ret]
  imodintro
  iapply Hk
  isplitl [Hat]; · iexact Hat
  isplitl [Hpay]
  · rw [Finset.sdiff_empty, duties_at, hs]; iexact Hpay
  iexists _; iexact HO

/-! ## A step for each row block -/

theorem list_cons {A : Type} (a : A) (xs : List A) (P : A → sProp 𝕄) : bigSepL (a :: xs) P = iprop(P a ∗ bigSepL xs P) := bigSepL_cons ..

/-- A step for each entry of a list: each turns its `P` into its `Q` and pays the first raise owed, if it owes any. -/
theorem each_wp {A : Type} (f : A → Prog (TpuEff nD τ sig (Elt F) Λ₀ .tc) PUnit) (P Q : A → sProp 𝕄) (I : sProp 𝕄) [BI.Persistent I]
    (due : A → List (GSem nD τ sig × ℕ)) (ok : List (GSem nD τ sig × ℕ) → Prop)
    (hok : ∀ a l, ok l → ok (due a ++ l))
    (h : ∀ (a : A) (l : List (GSem nD τ sig × ℕ)), ok l → ∀ (W : Waits sig Unit) (Kt : PUnit → sProp 𝕄),
      iprop(I ∗ P a ∗ owes (c : Thread nD τ) (owed (due a ++ l)) W
          ∗ ((Q a ∗ ∃ W', owes (c : Thread nD τ) (owed l) W') -∗ Kt ⟨⟩))
        ⊢ wp frame (wpE (defs₀ (F := F)) 𝒱₀ (c : Thread nD τ) none) Set.univ (f a) Kt)
    (xs : List A) (l : List (GSem nD τ sig × ℕ)) (hl : ok l) (W : Waits sig Unit) (Kt : PUnit → sProp 𝕄) :
    iprop(I ∗ bigSepL xs P ∗ owes (c : Thread nD τ) (owed (xs.flatMap due ++ l)) W
        ∗ ((bigSepL xs Q ∗ ∃ W', owes (c : Thread nD τ) (owed l) W') -∗ Kt ⟨⟩))
      ⊢ wp frame (wpE (defs₀ (F := F)) 𝒱₀ (c : Thread nD τ) none) Set.univ (each f xs) Kt := by
  have hrest (xs : List A) : ok (xs.flatMap due ++ l) := by
    induction xs with
    | nil => exact hl
    | cons a xs ih => rw [List.flatMap_cons, List.append_assoc]; exact hok a _ ih
  induction xs generalizing W Kt with
  | nil =>
    unfold each
    rw [wp_pure]
    iintro ⟨-, HP, HO, Hk⟩
    imodintro
    iapply Hk
    isplitl [HP]; · iexact HP
    iexists W; iexact HO
  | cons a xs ih =>
    unfold each
    rw [wp_bind, list_cons, list_cons, List.flatMap_cons, List.append_assoc]
    iintro ⟨#HI, ⟨Ha, HP⟩, HO, Hk⟩
    iapply (h a (xs.flatMap due ++ l) (hrest xs) W)
    isplitr; · iexact HI
    isplitl [Ha]; · iexact Ha
    isplitl [HO]; · iexact HO
    iintro ⟨Hq, ⟨%W', HO⟩⟩
    iapply (ih W')
    isplitr; · iexact HI
    isplitl [HP]; · iexact HP
    isplitl [HO]; · iexact HO
    iintro ⟨HQ, HO⟩
    iapply Hk
    isplitr [HO]
    · isplitl [Hq]; · iexact Hq
      iexact HQ
    iexact HO

end Cert.KernelIdeal.Talk

end
-- ==== Proof.Compute.lean ====
/- What a device computes before the exchange: the attention of its four heads on both batch entries and
   its partial result, written into the accumulator half by half; and each half put up for sending. -/
module

public import proofs.«01_k».proof.Proof.Steps
public import Idealize.ShloMosaic.Lib.ValueIdxCore

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.ValueIdx (ix2 ix3 eq_ix2)

variable {F : FTy → Type} [FloatOps F]

local notation "𝕄" => MT nD τ sig Unit (Elt F) ℕ UU ℕ

/-! ## The values -/

section Values

variable (X : Vec F S512x512 .bf16) (WQ : Vec F S512x256 .bf16) (KS VS : Vec F S8x256x64 .bf16) (WO : Vec F S256x512 .bf16)

/-- The rows of batch entry `b` of the input. -/
def rowsOf (b : Fin 2) : Vec F S256x512 .bf16 := fun i => X ((halfRect b).emb i)
/-- The keys, or values, of head `h` of batch entry `b`. -/
def kvOf (b : Fin 2) (h : Fin 4) (M : Vec F S8x256x64 .bf16) : Vec F S1x256x64 .bf16 := fun i => M ((kvRect b h).emb i)
/-- The context of batch entry `b`: head by head, 64 columns each. -/
def ctxOf (b : Fin 2) : Vec F S256x256 .bf16 := fun i =>
  let h : Fin 4 := ⟨(i 1).val / 64, by have : (i 1).val < 256 := (i 1).isLt; omega⟩
  headCtx h (queries (rowsOf X b) WQ) (kvOf b h KS) (kvOf b h VS)
    (ix2 (n0 := 256) (n1 := 64) (i 0) ⟨(i 1).val % 64, by omega⟩)
/-- A device's partial result. -/
def partOf : FVec F S512x512 .f32 := fun i =>
  let b : Fin 2 := ⟨(i 0).val / 256, by have : (i 0).val < 512 := (i 0).isLt; omega⟩
  project (ctxOf X WQ KS VS b) WO (ix2 (n0 := 256) (n1 := 512) ⟨(i 0).val % 256, by omega⟩ (i 1))

theorem partOf_half (b : Fin 2) (j : S256x512.Idx) :
    partOf X WQ KS VS WO ((halfRect b).emb j) = project (ctxOf X WQ KS VS b) WO j := by
  have h0 : (j 0).val < 256 := (j 0).isLt
  have e0 : ((halfRect b).emb j 0).val = 256 * b.val + (j 0).val := by rw [Rect.emb_apply]; simp
  have e1 : ((halfRect b).emb j 1).val = (j 1).val := by rw [Rect.emb_apply]; simp
  unfold partOf
  have hb : (⟨((halfRect b).emb j 0).val / 256, by have : ((halfRect b).emb j 0).val < 512 := ((halfRect b).emb j 0).isLt; omega⟩ : Fin 2) = b :=
    Fin.ext (by show ((halfRect b).emb j 0).val / 256 = b.val; omega)
  dsimp only
  rw [hb]
  congr 1
  funext a
  match a with
  | ⟨0, _⟩ => exact Fin.ext (by show ((halfRect b).emb j 0).val % 256 = (j 0).val; omega)
  | ⟨1, _⟩ => exact Fin.ext e1

end Values

/-! ## The context buffer, head by head -/

theorem head_write (b : Fin 2) (h h' : Fin 4) (f : (cxM.access (headRect b h)).ty.Contents (Elt F)) (w : Vec F S256x64 .bf16) (j : S256x64.Idx) :
    cxM.view.read (Elt F) ((cxM.access (headRect b h)).write (Elt F) f w Finset.univ) ((headRect b h').emb j)
      = if h = h' then w j else cxM.view.read (Elt F) f ((headRect b h').emb j) := by
  split
  · next e => subst e; exact View.read_slice_write_emb (Val := Elt F) (v := cxM.view) (headRect b h) f w (x := j) (Finset.mem_univ j)
  · next e =>
    refine View.read_slice_write_of_not_mem (Val := Elt F) (v := cxM.view) (headRect b h) f w Finset.univ (y := (headRect b h').emb j) fun hm => e ?_
    obtain ⟨i, -, hi⟩ := Finset.mem_map.mp hm
    have h1 : ((headRect b h).emb i 1).val = ((headRect b h').emb j 1).val := congrArg (fun x => (x 1).val) hi
    rw [Rect.emb_apply, Rect.emb_apply] at h1
    have : (i 1).val < 64 := (i 1).isLt
    have : (j 1).val < 64 := (j 1).isLt
    have h2 : 64 * h.val + 1 * (i 1).val = 64 * h'.val + 1 * (j 1).val := h1
    exact Fin.ext (by omega)

/-- The context buffer after the four heads of batch entry `b` have been written into it. -/
def ctxBuf (b : Fin 2) (f : (cxM.access (headRect b 0)).ty.Contents (Elt F)) (w : Fin 4 → Vec F S256x64 .bf16) :
    (cxM.access (headRect b 0)).ty.Contents (Elt F) :=
  (cxM.access (headRect b 3)).write (Elt F) ((cxM.access (headRect b 2)).write (Elt F) ((cxM.access (headRect b 1)).write (Elt F)
    ((cxM.access (headRect b 0)).write (Elt F) f (w 0) Finset.univ) (w 1) Finset.univ) (w 2) Finset.univ) (w 3) Finset.univ

theorem ctx_read (b : Fin 2) (f : (cxM.access (headRect b 0)).ty.Contents (Elt F)) (w : Fin 4 → Vec F S256x64 .bf16) :
    (cxM.access (ctxRect b)).read (Elt F) (ctxBuf b f w) = fun i : S256x256.Idx =>
      w ⟨(i 1).val / 64, by have : (i 1).val < 256 := (i 1).isLt; omega⟩ (ix2 (n0 := 256) (n1 := 64) (i 0) ⟨(i 1).val % 64, by omega⟩) := by
  funext i
  have hi : (i 1).val < 256 := (i 1).isLt
  obtain ⟨h, hh⟩ : ∃ h : Fin 4, h = ⟨(i 1).val / 64, by omega⟩ := ⟨_, rfl⟩
  obtain ⟨j, hj⟩ : ∃ j : S256x64.Idx, j = ix2 (n0 := 256) (n1 := 64) (i 0) ⟨(i 1).val % 64, by omega⟩ := ⟨_, rfl⟩
  have e : (ctxRect b).emb i = (headRect b h).emb j := by
    funext a
    match a with
    | ⟨0, _⟩ => subst hj; rfl
    | ⟨1, _⟩ =>
      refine Fin.ext ?_
      subst hh hj
      show 0 + 1 * (i 1).val = 64 * ((i 1).val / 64) + 1 * ((i 1).val % 64)
      omega
  show cxM.view.read (Elt F) (ctxBuf b f w) ((ctxRect b).emb i) = _
  rw [e, ← hh, ← hj]
  unfold ctxBuf
  rw [head_write, head_write, head_write, head_write]
  clear hh hj e
  fin_cases h <;> rfl

/-! ## The buffers a device computes in -/

abbrev xM : Memref sig .tc .vmem S512x512 .bf16 := Memref.whole cc0_stg0_0
abbrev wqM : Memref sig .tc .vmem S512x256 .bf16 := Memref.whole cc0_stg1_0
abbrev ksM : Memref sig .tc .vmem S8x256x64 .bf16 := Memref.whole cc0_stg2_0
abbrev vsM : Memref sig .tc .vmem S8x256x64 .bf16 := Memref.whole cc0_stg3_0
abbrev woM : Memref sig .tc .vmem S256x512 .bf16 := Memref.whole cc0_stg4_0

/-- Device `c`'s buffer `b`, whole, at `f`. -/
abbrev pt (c : Dev nD) (b : Ref sig .tc) (f : b.ty.Contents (Elt F)) : sProp 𝕄 :=
  (Memref.whole b).view.loc (c : Thread nD τ) ↦[Finset.univ]{fullShare} f

variable (X : Vec F S512x512 .bf16) (WQ : Vec F S512x256 .bf16) (KS VS : Vec F S8x256x64 .bf16) (WO : Vec F S256x512 .bf16)
  (c : Dev nD)

/-- The operands of device `c`'s call. -/
def Ops : sProp 𝕄 :=
  iprop(pt c cc0_stg0_0 X ∗ pt c cc0_stg1_0 WQ ∗ pt c cc0_stg2_0 KS ∗ pt c cc0_stg3_0 VS ∗ pt c cc0_stg4_0 WO)

theorem head_wp (hcx : cxM.IsWhole) (b : Fin 2) (h : Fin 4) (qs : FVec F S256x256 .bf16) (f f' : cc0_scratch0.ty.Contents (Elt F))
    (hf : (cxM.access (headRect b h)).write (Elt F) f (headCtx h qs (kvOf b h KS) (kvOf b h VS)) Finset.univ = f') (Kt : PUnit → sProp 𝕄) :
    iprop(pt c cc0_stg2_0 KS ∗ pt c cc0_stg3_0 VS ∗ pt c cc0_scratch0 f
        ∗ ((pt c cc0_stg2_0 KS ∗ pt c cc0_stg3_0 VS
            ∗ pt c cc0_scratch0 f') -∗ Kt ⟨⟩))
      ⊢ wp frame (wpE (defs₀ (F := F)) 𝒱₀ (c : Thread nD τ) none) Set.univ (headProg (F := F) ksM vsM cxM hcx b h qs) Kt := by
  subst hf
  unfold headProg
  show _ ⊢ wp frame _ _ (.op _ fun _ => .op _ fun _ => .op _ fun _ => .op _ .ret) Kt
  iintro ⟨HK, HV, HC, Hk⟩
  iapply (wp_load_rect 𝒱₀ (c : Thread nD τ) none Set.univ (m := ksM) (r := kvRect b h) (S := Finset.univ) (f := KS) (Finset.subset_univ _)) $$ HK
  iintro HK
  iapply (wp_load_rect 𝒱₀ (c : Thread nD τ) none Set.univ (m := vsM) (r := kvRect b h) (S := Finset.univ) (f := VS) (Finset.subset_univ _)) $$ HV
  iintro HV
  iapply (wp_load_rect 𝒱₀ (c : Thread nD τ) none Set.univ (m := cxM) (r := headRect b h) (S := Finset.univ) (f := f) (Finset.subset_univ _)) $$ HC
  iintro HC
  iapply (wp_store 𝒱₀ (c : Thread nD τ) none Set.univ (m := cxM) (r := headRect b h) (S := Finset.univ) (f := f) (Finset.subset_univ _)) $$ HC
  iintro HC
  rw [wp_ret]
  imodintro
  iapply Hk
  isplitl [HK]; · iexact HK
  isplitl [HV]; · iexact HV
  iexact HC

/-- The accumulator after the partial result of batch entry `b` has been written into it. -/
abbrev outBuf (b : Fin 2) (fo : cc0_stg5_0.ty.Contents (Elt F)) : cc0_stg5_0.ty.Contents (Elt F) :=
  (outM.access (halfRect b)).write (Elt F) fo (project (ctxOf X WQ KS VS b) WO) Finset.univ

theorem zero2 : (![0, 0] : Fin 2 → ℕ) = fun _ => 0 := by funext a; fin_cases a <;> rfl

theorem wq_read : (wqM.access (Rect.unit (s := S512x256) ![0, 0] S512x256.size inb_S512x256_S512x256_0_0)).read (Elt F) WQ = WQ :=
  Memref.read_access_unit_zero (Elt F) cc0_stg1_0 zero2 inb_S512x256_S512x256_0_0 WQ
theorem wo_read : (woM.access (Rect.unit (s := S256x512) ![0, 0] S256x512.size inb_S256x512_S256x512_0_0)).read (Elt F) WO = WO :=
  Memref.read_access_unit_zero (Elt F) cc0_stg4_0 zero2 inb_S256x512_S256x512_0_0 WO

theorem batch_wp (hcx : cxM.IsWhole) (b : Fin 2) (f : cc0_scratch0.ty.Contents (Elt F)) (fo : cc0_stg5_0.ty.Contents (Elt F))
    (Kt : PUnit → sProp 𝕄) :
    iprop(Ops X WQ KS VS WO c ∗ pt c cc0_scratch0 f ∗ pt c cc0_stg5_0 fo
        ∗ ((Ops X WQ KS VS WO c ∗ (∃ f, pt c cc0_scratch0 f) ∗ pt c cc0_stg5_0 (outBuf X WQ KS VS WO b fo)) -∗ Kt ⟨⟩))
      ⊢ wp frame (wpE (defs₀ (F := F)) 𝒱₀ (c : Thread nD τ) none) Set.univ
          (batchProg (F := F) xM wqM ksM vsM woM outM cxM hcx b) Kt := by
  unfold batchProg
  show _ ⊢ wp frame _ _ (.op _ fun xs => .op _ fun w =>
    headProg ksM vsM cxM hcx b 0 (queries xs w) >>= fun _ => headProg ksM vsM cxM hcx b 1 (queries xs w) >>= fun _ =>
    headProg ksM vsM cxM hcx b 2 (queries xs w) >>= fun _ => headProg ksM vsM cxM hcx b 3 (queries xs w) >>= fun _ =>
    .op _ fun _ => .op _ fun _ => .op _ fun _ => .op _ .ret) Kt
  unfold Ops
  iintro ⟨⟨HX, HQ, HK, HV, HO⟩, HC, Hout, Hk⟩
  iapply (wp_load_rect 𝒱₀ (c : Thread nD τ) none Set.univ (m := xM) (r := halfRect b) (S := Finset.univ) (f := X) (Finset.subset_univ _)) $$ HX
  iintro HX
  iapply (wp_load_rect 𝒱₀ (c : Thread nD τ) none Set.univ (m := wqM) (r := Rect.unit (s := S512x256) ![0, 0] S512x256.size inb_S512x256_S512x256_0_0)
    (S := Finset.univ) (f := WQ) (Finset.subset_univ _)) $$ HQ
  iintro HQ
  rw [wq_read, wp_bind]
  iapply (head_wp KS VS c hcx b 0 (queries (rowsOf X b) WQ) f _ rfl)
  isplitl [HK]; · iexact HK
  isplitl [HV]; · iexact HV
  isplitl [HC]; · iexact HC
  iintro ⟨HK, HV, HC⟩
  rw [wp_bind]
  iapply (head_wp KS VS c hcx b 1 (queries (rowsOf X b) WQ) _ _ rfl)
  isplitl [HK]; · iexact HK
  isplitl [HV]; · iexact HV
  isplitl [HC]; · iexact HC
  iintro ⟨HK, HV, HC⟩
  rw [wp_bind]
  iapply (head_wp KS VS c hcx b 2 (queries (rowsOf X b) WQ) _ _ rfl)
  isplitl [HK]; · iexact HK
  isplitl [HV]; · iexact HV
  isplitl [HC]; · iexact HC
  iintro ⟨HK, HV, HC⟩
  rw [wp_bind]
  iapply (head_wp KS VS c hcx b 3 (queries (rowsOf X b) WQ) _
    (ctxBuf b f fun h => headCtx h (queries (rowsOf X b) WQ) (kvOf b h KS) (kvOf b h VS)) rfl)
  isplitl [HK]; · iexact HK
  isplitl [HV]; · iexact HV
  isplitl [HC]; · iexact HC
  iintro ⟨HK, HV, HC⟩
  iapply (wp_load_rect 𝒱₀ (c : Thread nD τ) none Set.univ (m := cxM) (r := ctxRect b) (S := Finset.univ)
    (f := ctxBuf b f fun h => headCtx h (queries (rowsOf X b) WQ) (kvOf b h KS) (kvOf b h VS)) (Finset.subset_univ _)) $$ HC
  iintro HC
  rw [ctx_read]
  iapply (wp_load_rect 𝒱₀ (c : Thread nD τ) none Set.univ (m := woM) (r := Rect.unit (s := S256x512) ![0, 0] S256x512.size inb_S256x512_S256x512_0_0)
    (S := Finset.univ) (f := WO) (Finset.subset_univ _)) $$ HO
  iintro HO
  rw [wo_read]
  iapply (wp_load_rect 𝒱₀ (c : Thread nD τ) none Set.univ (m := outM) (r := halfRect b) (S := Finset.univ) (f := fo) (Finset.subset_univ _)) $$ Hout
  iintro Hout
  iapply (wp_store 𝒱₀ (c : Thread nD τ) none Set.univ (m := outM) (r := halfRect b) (S := Finset.univ) (f := fo) (Finset.subset_univ _)) $$ Hout
  iintro Hout
  rw [wp_ret]
  imodintro
  iapply Hk
  isplitl [HX HQ HK HV HO]
  · isplitl [HX]; · iexact HX
    isplitl [HQ]; · iexact HQ
    isplitl [HK]; · iexact HK
    isplitl [HV]; · iexact HV
    iexact HO
  isplitl [HC]; · iexists _; iexact HC
  iexact Hout

/-- The send buffer after half of a partial result has been put up for sending. -/
abbrev sndBuf (b : Fin 2) (o : Vec F S256x512 .f32) (fs : cc0_scratch1.ty.Contents (Elt F)) : cc0_scratch1.ty.Contents (Elt F) :=
  (sndM.access (halfSendRect b)).write (Elt F) fs (sendHalf o) Finset.univ

/-- The entries `S` of device `c`'s send buffer, at `f`. -/
abbrev sndOn (c : Dev nD) (S : Finset S3x512x512.Idx) (f : cc0_scratch1.ty.Contents (Elt F)) : sProp 𝕄 :=
  (Memref.whole cc0_scratch1).view.loc (c : Thread nD τ) ↦[S]{fullShare} f

theorem stage_wp (hsnd : sndM.IsWhole) (b : Fin 2) (fo : cc0_stg5_0.ty.Contents (Elt F)) (o : Vec F S256x512 .f32)
    (ho : (outM.access (halfRect b)).read (Elt F) fo = o)
    (S : Finset S3x512x512.Idx) (hS : (sndM.access (halfSendRect b)).set ⊆ S)
    (fs : cc0_scratch1.ty.Contents (Elt F)) (Kt : PUnit → sProp 𝕄) :
    iprop(pt c cc0_stg5_0 fo ∗ sndOn c S fs
        ∗ ((pt c cc0_stg5_0 fo ∗ sndOn c S (sndBuf b o fs)) -∗ Kt ⟨⟩))
      ⊢ wp frame (wpE (defs₀ (F := F)) 𝒱₀ (c : Thread nD τ) none) Set.univ (stageHalf (F := F) outM sndM hsnd b) Kt := by
  unfold stageHalf
  show _ ⊢ wp frame _ _ (.op _ fun _ => .op _ fun _ => .op _ .ret) Kt
  iintro ⟨Ho, Hs, Hk⟩
  iapply (wp_load_rect 𝒱₀ (c : Thread nD τ) none Set.univ (m := outM) (r := halfRect b) (S := Finset.univ) (f := fo) (Finset.subset_univ _)) $$ Ho
  iintro Ho
  rw [ho]
  iapply (wp_load_rect 𝒱₀ (c : Thread nD τ) none Set.univ (m := sndM) (r := halfSendRect b) (S := S) (f := fs) hS) $$ Hs
  iintro Hs
  iapply (wp_store 𝒱₀ (c : Thread nD τ) none Set.univ (m := sndM) (r := halfSendRect b) (S := S) (f := fs) hS) $$ Hs
  iintro Hs
  rw [wp_ret]
  imodintro
  iapply Hk
  isplitl [Ho]; · iexact Ho
  iexact Hs

end Cert.KernelIdeal.Talk

end
-- ==== Proof.Buffers.lean ====
/- The exchange buffers and the accumulator, row block by row block: how a whole buffer falls into its
   row blocks and is put together again, and what half a partial result put up for sending reads there. -/
module

public import proofs.«01_k».proof.Proof.Compute
public import Idealize.ShloMosaic.Lib.Pipeline.Kit
public import Idealize.ShloMosaic.Lib.Pipeline.BigSepL
public import Idealize.ShloMosaic.Lib.Pipeline.Value
public import Idealize.ShloMosaic.Lib.ValueLayout
public import Idealize.SL.ProofMode.BigOp

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.ValueIdx (ix2 ix3 eq_ix2 eq_ix3)

variable {F : FTy → Type} [FloatOps F]

local notation "𝕄" => MT nD τ sig Unit (Elt F) ℕ UU ℕ

/-! ## Row blocks as sets of entries -/

theorem slotRect_mem (r : Fin 3) (k : Fin 8) (i : S3x512x512.Idx) :
    i ∈ (slotRect r k).set ↔ (i 0).val = r.val ∧ (i 1).val / 64 = k.val := by
  rw [Rect.mem_set_unit]
  have h2 : (i 2).val < 512 := (i 2).isLt
  constructor
  · intro h
    have h0 : r.val ≤ (i 0).val ∧ (i 0).val < r.val + 1 := h 0
    have h1 : 64 * k.val ≤ (i 1).val ∧ (i 1).val < 64 * k.val + 64 := h 1
    omega
  · rintro ⟨h0, h1⟩ a
    match a with
    | ⟨0, _⟩ => show r.val ≤ (i 0).val ∧ (i 0).val < r.val + 1; omega
    | ⟨1, _⟩ => show 64 * k.val ≤ (i 1).val ∧ (i 1).val < 64 * k.val + 64; omega
    | ⟨2, _⟩ => show 0 ≤ (i 2).val ∧ (i 2).val < 0 + 512; omega

theorem rowsRect_mem (k : Fin 8) (i : S512x512.Idx) : i ∈ (rowsRect k).set ↔ (i 0).val / 64 = k.val := by
  rw [Rect.mem_set_unit]
  have h1 : (i 1).val < 512 := (i 1).isLt
  constructor
  · intro h
    have h0 : 64 * k.val ≤ (i 0).val ∧ (i 0).val < 64 * k.val + 64 := h 0
    omega
  · intro h a
    match a with
    | ⟨0, _⟩ => show 64 * k.val ≤ (i 0).val ∧ (i 0).val < 64 * k.val + 64; omega
    | ⟨1, _⟩ => show 0 ≤ (i 1).val ∧ (i 1).val < 0 + 512; omega

/-- A row block of an exchange buffer, named by its slot and its number. -/
abbrev SlotId : Type := Fin 3 × Fin 8

def slotSet (p : SlotId) : Finset S3x512x512.Idx := (slotRect p.1 p.2).set
def rowsSet (k : Fin 8) : Finset S512x512.Idx := (rowsRect k).set

theorem slotSet_disj (p q : SlotId) (h : p ≠ q) : Disjoint (slotSet p) (slotSet q) :=
  Finset.disjoint_left.mpr fun i hp hq => h (by
    have hp := (slotRect_mem p.1 p.2 i).mp hp
    have hq := (slotRect_mem q.1 q.2 i).mp hq
    exact Prod.ext (Fin.ext (hp.1.symm.trans hq.1)) (Fin.ext (hp.2.symm.trans hq.2)))
theorem rowsSet_disj (p q : Fin 8) (h : p ≠ q) : Disjoint (rowsSet p) (rowsSet q) :=
  Finset.disjoint_left.mpr fun i hp hq => h (Fin.ext (((rowsRect_mem p i).mp hp).symm.trans ((rowsRect_mem q i).mp hq)))

theorem slotSet_all : Finset.univ.biUnion slotSet = Finset.univ := by
  refine Finset.eq_univ_iff_forall.mpr fun i => Finset.mem_biUnion.mpr ?_
  have h0 : (i 0).val < 3 := (i 0).isLt
  have h1 : (i 1).val < 512 := (i 1).isLt
  exact ⟨(⟨(i 0).val, h0⟩, ⟨(i 1).val / 64, by omega⟩), Finset.mem_univ _, (slotRect_mem _ _ i).mpr ⟨rfl, rfl⟩⟩
theorem rowsSet_all : Finset.univ.biUnion rowsSet = Finset.univ := by
  refine Finset.eq_univ_iff_forall.mpr fun i => Finset.mem_biUnion.mpr ?_
  have h0 : (i 0).val < 512 := (i 0).isLt
  exact ⟨⟨(i 0).val / 64, by omega⟩, Finset.mem_univ _, (rowsRect_mem _ i).mpr rfl⟩

theorem snd_set (r : Fin 3) (k : Fin 8) : (slot sndM r k).view.set = slotSet (r, k) :=
  (slot_set r k sndM).trans (View.set_slice_whole ..)
theorem rcv_set (r : Fin 3) (k : Fin 8) : (slot rcvM r k).view.set = slotSet (r, k) :=
  (slot_set r k rcvM).trans (View.set_slice_whole ..)
theorem out_set (k : Fin 8) : (outM.access (rowsRect k)).set = rowsSet k := View.set_slice_whole ..

/-! ## Splitting -/

variable (c : Dev nD)

/-- The row blocks that are sent last: all but the first four of round 0. -/
def restSlots : Finset SlotId := Finset.univ \ ([0, 1, 2, 3] : List (Fin 8)).toFinset.map ⟨fun k => ((0 : Fin 3), k), fun _ _ h => congrArg Prod.snd h⟩

theorem sndPts_eq (r : Fin 3) (k : Fin 8) (f : cc0_scratch1.ty.Contents (Elt F)) : sndPts r k c f = sndOn c (slotSet (r, k)) f := by
  unfold sndPts sndOn; rw [snd_set]

/-- A family over a set is the family over a part of it and the family over the rest. -/
theorem split_off {A : Type} [DecidableEq A] {s t : Finset A} (h : t ⊆ s) (Φ : A → sProp 𝕄) :
    bigSep s Φ = iprop(bigSep t Φ ∗ bigSep (s \ t) Φ) := bigSep_sdiff_split h

theorem snd_first (f : cc0_scratch1.ty.Contents (Elt F)) :
    sndOn c Finset.univ f ⊢ iprop(bigSepL ([0, 1, 2, 3] : List (Fin 8)) (fun k => sndPts 0 k c f) ∗ sndOn c (restSlots.biUnion slotSet) f) := by
  unfold sndOn
  rw [← slotSet_all, pointsTo_biUnion _ _ fun p _ q _ => slotSet_disj p q,
    pointsTo_biUnion _ _ fun p _ q _ => slotSet_disj p q,
    split_off (Finset.subset_univ (([0, 1, 2, 3] : List (Fin 8)).toFinset.map ⟨fun k => ((0 : Fin 3), k), fun _ _ h => congrArg Prod.snd h⟩)),
    bigSep_map, bigSep_eq_bigSepL _ (by decide)]
  exact BIClass.sep_mono (bigSepL_mono fun k _ => Entails.of_eq (sndPts_eq c 0 k f).symm) .rfl

theorem restSlots_eq : restSlots = (([4, 5, 6, 7] : List (Fin 8)).map (fun k => ((0 : Fin 3), k))
    ++ (rows.map (fun k => ((1 : Fin 3), k)) ++ rows.map (fun k => ((2 : Fin 3), k)))).toFinset := by decide +kernel

theorem snd_second (f : cc0_scratch1.ty.Contents (Elt F)) :
    sndOn c (restSlots.biUnion slotSet) f ⊢ iprop(bigSepL ([4, 5, 6, 7] : List (Fin 8)) (fun k => sndPts 0 k c f)
      ∗ bigSepL rows (fun k => sndPts 1 k c f) ∗ bigSepL rows (fun k => sndPts 2 k c f)) := by
  unfold sndOn
  rw [pointsTo_biUnion _ _ fun p _ q _ => slotSet_disj p q, bigSep_eq_bigSepL_of_eq _ restSlots_eq (by decide +kernel),
    bigSepL_append, bigSepL_append, bigSepL_map, bigSepL_map, bigSepL_map]
  exact BIClass.sep_mono (bigSepL_mono fun k _ => Entails.of_eq (sndPts_eq c 0 k f).symm)
    (BIClass.sep_mono (bigSepL_mono fun k _ => Entails.of_eq (sndPts_eq c 1 k f).symm)
      (bigSepL_mono fun k _ => Entails.of_eq (sndPts_eq c 2 k f).symm))

/-- The second half of slot 0 lies among the row blocks sent last. -/
theorem half_rest : (sndM.access (halfSendRect 1)).set ⊆ restSlots.biUnion slotSet := by
  rw [show (sndM.access (halfSendRect 1)).set = (halfSendRect 1).set from View.set_slice_whole ..]
  intro i hi
  rw [Rect.mem_set_unit] at hi
  have h0 : 0 ≤ (i 0).val ∧ (i 0).val < 0 + 1 := hi 0
  have h1 : 256 * 1 ≤ (i 1).val ∧ (i 1).val < 256 * 1 + 256 := hi 1
  refine Finset.mem_biUnion.mpr ⟨((0 : Fin 3), ⟨(i 1).val / 64, by omega⟩), ?_, (slotRect_mem _ _ i).mpr ⟨by show (i 0).val = 0; omega, rfl⟩⟩
  unfold restSlots
  refine Finset.mem_sdiff.mpr ⟨Finset.mem_univ _, fun h => ?_⟩
  obtain ⟨k, hk, e⟩ := Finset.mem_map.mp h
  have e : k.val = (i 1).val / 64 := congrArg (fun p : SlotId => p.2.val) e
  have : k.val < 4 := (show ∀ k ∈ ([0, 1, 2, 3] : List (Fin 8)).toFinset, k.val < 4 by decide) k hk
  omega

theorem rcvPts_eq (r : Fin 3) (k : Fin 8) (f : cc0_scratch2.ty.Contents (Elt F)) :
    rcvPts r k c f = ((Memref.whole cc0_scratch2).view.loc (c : Thread nD τ) ↦[slotSet (r, k)]{fullShare} f : sProp 𝕄) := by
  unfold rcvPts; rw [rcv_set]

theorem outPts_eq (k : Fin 8) (f : cc0_stg5_0.ty.Contents (Elt F)) :
    outPts k c f = ((Memref.whole cc0_stg5_0).view.loc (c : Thread nD τ) ↦[rowsSet k]{fullShare} f : sProp 𝕄) := by
  unfold outPts; rw [out_set]

theorem rcv_split (f : cc0_scratch2.ty.Contents (Elt F)) :
    pt c cc0_scratch2 f ⊢ bigSep Finset.univ fun r : Fin 3 => bigSep Finset.univ fun k : Fin 8 => iprop(∃ f, rcvPts r k c f) := by
  unfold pt
  rw [show (Finset.univ : Finset S3x512x512.Idx) = Finset.univ.biUnion slotSet from slotSet_all.symm,
    pointsTo_biUnion _ _ fun p _ q _ => slotSet_disj p q, bigSep_univ_prod]
  have h (r : Fin 3) (k : Fin 8) : ((Memref.whole cc0_scratch2).view.loc (c : Thread nD τ) ↦[slotSet (r, k)]{fullShare} f : sProp 𝕄)
      ⊢ iprop(∃ f, rcvPts r k c f) := by
    rw [← rcvPts_eq]
    iintro H
    iexists f
    iexact H
  exact bigSep_mono fun r _ => bigSep_mono fun k _ => h r k

theorem out_split (f : cc0_stg5_0.ty.Contents (Elt F)) :
    pt c cc0_stg5_0 f ⊢ bigSepL rows fun k => outPts k c f := by
  unfold pt
  rw [show (Finset.univ : Finset S512x512.Idx) = Finset.univ.biUnion rowsSet from rowsSet_all.symm,
    pointsTo_biUnion _ _ fun p _ q _ => rowsSet_disj p q, bigSep_univ_eq_bigSepL rows (by decide) (by decide)]
  exact bigSepL_mono fun k _ => Entails.of_eq (outPts_eq c k f).symm

/-! ## Putting together -/

/-- The parts of a buffer, each at contents of its own, are the buffer at contents that agree with each on its part. -/
theorem parts_join {ℓ : Loc nD τ sig} {T : Type} [Fintype T] [DecidableEq T] [Inhabited T] (S : T → Finset (Idx ℓ))
    (hd : ∀ p q, p ≠ q → Disjoint (S p) (S q)) (hall : Finset.univ.biUnion S = Finset.univ) [Nonempty (Buf (Elt F) ℓ)]
    (P : T → Buf (Elt F) ℓ → Prop) :
    (bigSep Finset.univ fun t => iprop(∃ f, ⌜P t f⌝ ∗ ℓ ↦[S t]{fullShare} f))
      ⊢ (iprop(∃ g, ⌜∀ t, ∃ f, P t f ∧ ∀ i ∈ S t, g i = f i⌝ ∗ ℓ ↦[Finset.univ]{fullShare} g) : sProp 𝕄) := by
  refine (bigSep_exists_pi Finset.univ fun (t : T) (f : Buf (Elt F) ℓ) => iprop(⌜P t f⌝ ∗ ℓ ↦[S t]{fullShare} f)).trans ?_
  refine exists_elim fun fs => ?_
  refine (bigSep_pure_sep Finset.univ (fun t => P t (fs t)) _).trans ?_
  iintro ⟨%hp, H⟩
  ihave H := (pointsTo_biUnion_join Finset.univ S fs (fs default) fun p _ q _ => hd p q) $$ H
  icases H with ⟨%g, %hg, H⟩
  rw [hall]
  iexists g
  isplitr
  · ipureintro; exact fun t => ⟨fs t, hp t (Finset.mem_univ t), hg t (Finset.mem_univ t)⟩
  iexact H

theorem snd_join (f₀ : cc0_scratch1.ty.Contents (Elt F)) :
    (bigSep Finset.univ fun p : SlotId => iprop(∃ f, sndPts p.1 p.2 c f)) ⊢ (iprop(∃ f, pt c cc0_scratch1 f) : sProp 𝕄) := by
  haveI : Nonempty (Buf (Elt F) ((Memref.whole cc0_scratch1).view.loc (c : Thread nD τ))) := ⟨f₀⟩
  have h (p : SlotId) : (iprop(∃ f, sndPts p.1 p.2 c f) : sProp 𝕄)
      ⊢ iprop(∃ f, ⌜True⌝ ∗ (Memref.whole cc0_scratch1).view.loc (c : Thread nD τ) ↦[slotSet p]{fullShare} f) := by
    iintro ⟨%f, H⟩
    iexists f
    isplitr
    · ipureintro; trivial
    iapply (Entails.of_eq (sndPts_eq c p.1 p.2 f)); iexact H
  refine BIBase.Entails.trans (bigSep_mono fun p _ => h p)
    ((parts_join (ℓ := (Memref.whole cc0_scratch1).view.loc (c : Thread nD τ)) slotSet slotSet_disj slotSet_all fun _ _ => True).trans ?_)
  iintro ⟨%g, -, H⟩
  iexists g
  iexact H

theorem rcv_join (f₀ : cc0_scratch2.ty.Contents (Elt F)) :
    (bigSep Finset.univ fun p : SlotId => iprop(∃ f, rcvPts p.1 p.2 c f)) ⊢ (iprop(∃ f, pt c cc0_scratch2 f) : sProp 𝕄) := by
  haveI : Nonempty (Buf (Elt F) ((Memref.whole cc0_scratch2).view.loc (c : Thread nD τ))) := ⟨f₀⟩
  have h (p : SlotId) : (iprop(∃ f, rcvPts p.1 p.2 c f) : sProp 𝕄)
      ⊢ iprop(∃ f, ⌜True⌝ ∗ (Memref.whole cc0_scratch2).view.loc (c : Thread nD τ) ↦[slotSet p]{fullShare} f) := by
    iintro ⟨%f, H⟩
    iexists f
    isplitr
    · ipureintro; trivial
    iapply (Entails.of_eq (rcvPts_eq c p.1 p.2 f)); iexact H
  refine BIBase.Entails.trans (bigSep_mono fun p _ => h p)
    ((parts_join (ℓ := (Memref.whole cc0_scratch2).view.loc (c : Thread nD τ)) slotSet slotSet_disj slotSet_all fun _ _ => True).trans ?_)
  iintro ⟨%g, -, H⟩
  iexists g
  iexact H

variable (part : Dev nD → FVec F S512x512 .f32)

/-- The result of device `c`: its partial result and what its three peers sent, added row block by row block. -/
def total : FVec F S512x512 .f32 := fun i =>
  acc part 3 ⟨(i 0).val / 64, by have : (i 0).val < 512 := (i 0).isLt; omega⟩ c
    (ix2 (n0 := 64) (n1 := 512) ⟨(i 0).val % 64, by omega⟩ (i 1))

theorem total_of_reads (g : cc0_stg5_0.ty.Contents (Elt F)) (h : ∀ k, (outM.access (rowsRect k)).read (Elt F) g = acc part 3 k c) :
    g = total c part := by
  funext i
  have h0 : (i 0).val < 512 := (i 0).isLt
  have e := congrFun (h ⟨(i 0).val / 64, by omega⟩) (ix2 (n0 := 64) (n1 := 512) ⟨(i 0).val % 64, by omega⟩ (i 1))
  refine Eq.trans (congrArg g ?_) e
  funext a
  match a with
  | ⟨0, _⟩ =>
    refine Fin.ext ?_
    show (i 0).val = 64 * ((i 0).val / 64) + 1 * ((i 0).val % 64)
    omega
  | ⟨1, _⟩ =>
    refine Fin.ext ?_
    show (i 1).val = 0 + 1 * (i 1).val
    omega

theorem out_join (f₀ : cc0_stg5_0.ty.Contents (Elt F)) :
    (bigSepL rows fun k => OutAt part k c 3) ⊢ (pt c cc0_stg5_0 (total c part) : sProp 𝕄) := by
  haveI : Nonempty (Buf (Elt F) ((Memref.whole cc0_stg5_0).view.loc (c : Thread nD τ))) := ⟨f₀⟩
  rw [← bigSep_univ_eq_bigSepL rows (by decide) (by decide)]
  have h (k : Fin 8) : OutAt part k c 3
      ⊢ iprop(∃ f, ⌜OutReads k c f (acc part 3 k c)⌝ ∗ (Memref.whole cc0_stg5_0).view.loc (c : Thread nD τ) ↦[rowsSet k]{fullShare} f) := by
    unfold OutAt
    iintro ⟨%f, %hf, H⟩
    iexists f
    isplitr
    · ipureintro; exact hf
    iapply (Entails.of_eq (outPts_eq c k f)); iexact H
  refine BIBase.Entails.trans (bigSep_mono fun k _ => h k)
    ((parts_join (ℓ := (Memref.whole cc0_stg5_0).view.loc (c : Thread nD τ)) rowsSet rowsSet_disj rowsSet_all
      fun k f => OutReads k c f (acc part 3 k c)).trans ?_)
  iintro ⟨%g, %hg, H⟩
  rw [← total_of_reads c part g fun k => ?_]
  · iexact H
  · obtain ⟨f, hf, hg⟩ := hg k
    refine Eq.trans ?_ hf
    funext j
    exact hg _ (by rw [← out_set]; exact View.emb_mem_set _ j)

/-! ## What is put up for sending -/

section Values

variable (X : Vec F S512x512 .bf16) (WQ : Vec F S512x256 .bf16) (KS VS : Vec F S8x256x64 .bf16) (WO : Vec F S256x512 .bf16)

theorem send_reads (hpart : part c = partOf X WQ KS VS WO) (b : Fin 2) (k : Fin 8) (hk : k.val / 4 = b.val) (fs : cc0_scratch1.ty.Contents (Elt F)) :
    SndReads 0 k c (sndBuf b (project (ctxOf X WQ KS VS b) WO) fs) (sent part 0 k c) := by
  unfold SndReads
  funext j
  obtain ⟨u, x, y, rfl⟩ : ∃ (u : Fin 1) (x : Fin 64) (y : Fin 512), j = ix3 u x y := ⟨_, _, _, eq_ix3 j⟩
  obtain rfl : u = 0 := Subsingleton.elim _ _
  have hb : 64 * (k.val - 4 * b.val) + x.val < 256 := by omega
  have e : (slotRect 0 k).emb (ix3 0 x y) = (halfSendRect b).emb (ix3 (n0 := 1) (n1 := 256) (n2 := 512) 0 ⟨64 * (k.val - 4 * b.val) + x.val, hb⟩ y) := by
    funext a
    match a with
    | ⟨0, _⟩ => rfl
    | ⟨1, _⟩ =>
      refine Fin.ext ?_
      show 64 * k.val + 1 * x.val = 256 * b.val + 1 * (64 * (k.val - 4 * b.val) + x.val)
      omega
    | ⟨2, _⟩ => rfl
  show sndM.view.read (Elt F) (sndBuf b (project (ctxOf X WQ KS VS b) WO) fs) ((slotRect 0 k).emb (ix3 0 x y)) = _
  rw [e]
  refine (View.read_slice_write_emb (Val := Elt F) (v := sndM.view) (halfSendRect b) fs (sendHalf (project (ctxOf X WQ KS VS b) WO)) (Finset.mem_univ _)).trans ?_
  unfold sent sendRows sendHalf
  rw [show ((0 : Fin 3).val) = 0 from rfl, acc_zero, hpart]
  refine (ValueIdx.shapeCast_ab_1ab_apply _ _ _ _ _).trans (Eq.trans ?_ (ValueIdx.shapeCast_ab_1ab_apply _ _ _ _ _).symm)
  rw [shapeCast_self]
  have e' : (rowsRect k).emb (ix2 x y) = (halfRect b).emb (ix2 (n0 := 256) (n1 := 512) ⟨64 * (k.val - 4 * b.val) + x.val, hb⟩ y) := by
    funext a
    match a with
    | ⟨0, _⟩ =>
      refine Fin.ext ?_
      show 64 * k.val + 1 * x.val = 256 * b.val + 1 * (64 * (k.val - 4 * b.val) + x.val)
      omega
    | ⟨1, _⟩ => rfl
  unfold truncf
  dsimp only
  rw [e', partOf_half]

end Values

end Cert.KernelIdeal.Talk

end
-- ==== Proof.Run.lean ====
/- One device's whole call: from its operands, its buffers, its tickets of the exchange and its open
   semaphores to its result, with every semaphore closed at zero. -/
module

public import proofs.«01_k».proof.Proof.Buffers
public import Idealize.ShloMosaic.Lib.Ring

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

theorem fin3 (Φ : Fin 3 → sProp 𝕄) : bigSep Finset.univ Φ = iprop(Φ 0 ∗ Φ 1 ∗ Φ 2) :=
  bigSep_univ_eq_bigSepL [0, 1, 2] (by decide) (by decide) Φ
theorem listed (Φ : Fin 8 → sProp 𝕄) : bigSep Finset.univ Φ = bigSepL rows Φ :=
  bigSep_univ_eq_bigSepL rows (by decide) (by decide) Φ
theorem list_sep {A : Type} (xs : List A) (P Q : A → sProp 𝕄) :
    bigSepL xs (fun a => iprop(P a ∗ Q a)) = iprop(bigSepL xs P ∗ bigSepL xs Q) := by
  induction xs with
  | nil => exact equiv_iff.mp ⟨emp_sep.2, emp_sep.1⟩
  | cons a xs ih =>
    rw [list_cons, list_cons, list_cons, ih]
    refine equiv_iff.mp ⟨?_, ?_⟩
    · show iprop((P a ∗ Q a) ∗ (bigSepL xs P ∗ bigSepL xs Q)) ⊢ iprop((P a ∗ bigSepL xs P) ∗ (Q a ∗ bigSepL xs Q))
      iintro ⟨⟨H1, H2⟩, H3, H4⟩
      isplitl [H1 H3]
      · isplitl [H1]; · iexact H1
        iexact H3
      isplitl [H2]; · iexact H2
      iexact H4
    · show iprop((P a ∗ bigSepL xs P) ∗ (Q a ∗ bigSepL xs Q)) ⊢ iprop((P a ∗ Q a) ∗ (bigSepL xs P ∗ bigSepL xs Q))
      iintro ⟨⟨H1, H3⟩, H2, H4⟩
      isplitl [H1 H2]
      · isplitl [H1]; · iexact H1
        iexact H2
      isplitl [H3]; · iexact H3
      iexact H4
theorem list_two (Φ : Fin 8 → sProp 𝕄) :
    bigSepL rows Φ = iprop(bigSepL ([0, 1, 2, 3] : List (Fin 8)) Φ ∗ bigSepL ([4, 5, 6, 7] : List (Fin 8)) Φ) :=
  bigSepL_append ([0, 1, 2, 3] : List (Fin 8)) [4, 5, 6, 7] Φ

variable (part : Dev nD → FVec F S512x512 .f32) (K : GSem nD τ sig → ℕ) (c : Dev nD)

/-! ## What a device starts with -/

/-- To the peer of round `d`: the right to its one unit on the peer's barrier, which is live, and on its exit semaphore. -/
def Greet (d : Fin 3) : sProp 𝕄 :=
  iprop(dutyTok ER (barCell (peer d c)) 0 d ∗ reached ER (barCell (peer d c)) 0 ∗ dutyTok ER (exitCell (peer d c)) 0 d)
/-- For row block `k` in round `r`: what is due to the device, and the rights to its own copy's two raises. -/
def Ticket (r : Fin 3) (k : Fin 8) : sProp 𝕄 :=
  iprop(cred (tallyAt (recvCell r k c) () N) ∗ dutyTok ER (sendCell r k c) 0 0 ∗ dutyTok ER (recvCell r k (peer r c)) 0 r)
/-- All that a device gets at the start. -/
def Grant : sProp 𝕄 :=
  iprop(atPos ER (barCell c) 0 ∅ 0 ∗ cred (tallyAt (barCell c) () 3) ∗ cred (tallyAt (exitCell c) () 3)
    ∗ (bigSep Finset.univ fun d : Fin 3 => Greet (F := F) c d) ∗ bigSep Finset.univ fun p : SlotId => Ticket c p.1 p.2)
/-- The semaphores that live for the call only, open. -/
def Opened : sProp 𝕄 :=
  bigSep Finset.univ fun s : OwnSem => iprop(atPos ER ((c : Thread nD τ), osem s) 0 ∅ 0 ∗ reached ER ((c : Thread nD τ), osem s) 0)
/-- They and the barrier at zero again. -/
def Closed : sProp 𝕄 := iprop(semVal (barCell c) 0 ∗ bigSep Finset.univ fun s : OwnSem => semVal ((c : Thread nD τ), osem s) 0)

theorem own_split (Φ : OwnSem → sProp 𝕄) :
    bigSep Finset.univ Φ = iprop(Φ (.inl ()) ∗ (bigSep Finset.univ fun p : SlotId => Φ (.inr (.inl p)))
      ∗ bigSep Finset.univ fun p : SlotId => Φ (.inr (.inr p))) := by
  rw [bigSep_univ_sum, bigSep_univ_sum, show (Finset.univ : Finset Unit) = {()} from rfl, bigSep_singleton]
  rfl

/-- What was waited out is closed, at zero. -/
theorem close_all :
    iprop(known part K ∗ atPos ER (barCell c) (0 + 1) ∅ 0 ∗ bigSep Finset.univ fun s : OwnSem => atPos ER ((c : Thread nD τ), osem s) (0 + 1) ∅ 0)
      ⊢ (|={Set.univ}=> Closed c : sProp 𝕄) := by
  have one (g : GSem nD τ sig) (hg : g ∈ cells) : iprop(known part K ∗ atPos ER g (0 + 1) ∅ 0) ⊢ (|={Set.univ}=> semVal g 0 : sProp 𝕄) := by
    iintro ⟨#HI, Hat⟩
    iapply (Rounds.cell_close ER (Rd part) (Set.mem_univ (K g)) id (duties_later part g))
    isplitr; · iapply (known_at part K hg); iexact HI
    iexact Hat
  iintro ⟨#HI, Hb, Ho⟩
  imod (one (barCell c) (bar_mem c)) $$ [Hb] with Hb
  · isplitr; · iexact HI
    iexact Hb
  ihave Ho := ((bigSep_with_persistent (S := Finset.univ) (R := known part K)
      (Ψ := fun s : OwnSem => iprop(|={Set.univ}=> semVal ((c : Thread nD τ), osem s) 0)) fun s _ => one _ (own_mem c s)).trans
    (bigSep_fupd _ _)) $$ [Ho]
  · isplitr; · iexact HI
    iexact Ho
  imod Ho with Ho
  imodintro
  unfold Closed
  isplitl [Hb]; · iexact Hb
  iexact Ho

/-! ## The two meetings -/

theorem ready_all :
    iprop((bigSep Finset.univ fun p : SlotId => iprop(atPos ER (sendCell p.1 p.2 c) 0 ∅ 0 ∗ reached ER (sendCell p.1 p.2 c) 0))
        ∗ (bigSep Finset.univ fun p : SlotId => iprop(atPos ER (recvCell p.1 p.2 c) 0 ∅ 0 ∗ reached ER (recvCell p.1 p.2 c) 0))
        ∗ bigSep Finset.univ fun p : SlotId => Ticket (F := F) c p.1 p.2)
      ⊢ iprop((bigSep Finset.univ fun p : SlotId => Ready p.1 p.2 c)
        ∗ bigSep Finset.univ fun p : SlotId => reached ER (recvCell p.1 p.2 c) 0) := by
  rw [← bigSep_sep', ← bigSep_sep', ← bigSep_sep']
  have h (p : SlotId) : iprop((atPos ER (sendCell p.1 p.2 c) 0 ∅ 0 ∗ reached ER (sendCell p.1 p.2 c) 0)
      ∗ (atPos ER (recvCell p.1 p.2 c) 0 ∅ 0 ∗ reached ER (recvCell p.1 p.2 c) 0) ∗ Ticket (F := F) c p.1 p.2)
      ⊢ iprop(Ready p.1 p.2 c ∗ reached ER (recvCell p.1 p.2 c) 0) := by
    unfold Ticket Ready
    iintro ⟨⟨H1, H2⟩, ⟨H3, #H4⟩, H5, H6, H7⟩
    isplitl [H1 H2 H3 H5 H6 H7]
    · isplitl [H1]; · iexact H1
      isplitl [H3]; · iexact H3
      isplitl [H2]; · iexact H2
      isplitl [H5]; · iexact H5
      isplitl [H6]; · iexact H6
      iexact H7
    iexact H4
  exact bigSep_mono fun p _ => h p

theorem greet_call (d : Fin 3) :
    iprop(reached ER (exitCell c) 0 ∗ Greet c d ∗ (bigSep Finset.univ fun k : Fin 8 => iprop(∃ f, rcvPts d k c f))
        ∗ bigSep Finset.univ fun k : Fin 8 => reached ER (recvCell d k c) 0)
      ⊢ iprop(Call part c barrier0 d ∗ dutyTok ER (exitCell (peer d c)) 0 d) := by
  unfold Greet Call
  rw [payload_bar]
  unfold barPay
  rw [peer_peer, bigSep_sep']
  iintro ⟨#HrE, ⟨Ht, #Hr, HtE⟩, Hs, HrR⟩
  isplitr [HtE]
  · isplitl [Ht]; · iexact Ht
    isplitl [Hs HrR]
    · isplitr []
      · isplitl [Hs]; · iexact Hs
        iexact HrR
      iexact HrE
    iexact Hr
  iexact HtE

theorem welcomed (d : Fin 3) :
    (Rd part).payload (barCell c) 0 d ⊢ iprop((bigSepL rows fun k => Dest (F := F) d k c) ∗ reached ER (exitCell (peer d c)) 0) := by
  rw [payload_bar, ← listed]
  unfold barPay Dest
  exact .rfl

theorem leave_call (d : Fin 3) :
    iprop(dutyTok ER (exitCell (peer d c)) 0 d ∗ reached ER (exitCell (peer d c)) 0) ⊢ Call part c exS d := by
  unfold Call
  rw [payload_exit]
  iintro ⟨Ht, #Hr⟩
  isplitl [Ht]; · iexact Ht
  isplitr; · iempintro
  iexact Hr

/-! ## The exchange, once all copies of round 0 are on their way -/

theorem level_ok {r : Fin 3} {k : Fin 8} {d : Dev nD} {n : ℕ} (h : n < 2 + r.val) :
    (recvCell r k d).1.2 = .tc ∧ n < level (role (recvCell r k d).2) := ⟨rfl, by rw [role_recv]; exact h⟩
theorem exits_ok {n : ℕ} (h : n < 5) : ∀ x ∈ exits c, x.1.1.2 = .tc ∧ n < level (role x.1.2) := fun x hx => by
  obtain ⟨d, -, rfl⟩ := List.mem_map.mp hx
  exact ⟨rfl, by rw [role_exit]; exact h⟩

/-- The raise a copy of row block `k` in round `r` owes. -/
def due (r : Fin 3) (k : Fin 8) : List (GSem nD τ sig × ℕ) := [(recvCell r k (peer r c), N)]

/-- All of `l` is raised later than what is awaited at level `n`. -/
def Later (n : ℕ) (l : List (GSem nD τ sig × ℕ)) : Prop := ∀ x ∈ l, x.1.1.2 = .tc ∧ n < level (role x.1.2)

theorem due_later {n : ℕ} (r : Fin 3) (h : n < 2 + r.val) (k : Fin 8) (l : List (GSem nD τ sig × ℕ)) (hl : Later n l) :
    Later n (due c r k ++ l) := fun x hx => by
  rcases List.mem_cons.mp hx with rfl | hx
  · exact level_ok h
  · exact hl x hx
theorem dues_later {n : ℕ} (r : Fin 3) (h : n < 2 + r.val) (xs : List (Fin 8)) (l : List (GSem nD τ sig × ℕ)) (hl : Later n l) :
    Later n (xs.flatMap (due c r) ++ l) := by
  induction xs with
  | nil => exact hl
  | cons k xs ih => rw [List.flatMap_cons, List.append_assoc]; exact due_later c r h k _ ih

/-- Starting the copies of round 0 of the row blocks `xs`. -/
theorem starts_wp (hsnd : sndM.IsWhole) (hrcv : rcvM.IsWhole) (xs : List (Fin 8)) (l : List (GSem nD τ sig × ℕ))
    (W : Waits sig Unit) (Kt : PUnit → sProp 𝕄) :
    iprop(known part K ∗ bigSepL xs (fun k => iprop(Ready 0 k c ∗ Dest 0 k c ∗ SendAt part 0 k c))
        ∗ owes (c : Thread nD τ) (owed (xs.flatMap (due c 0) ++ l)) W
        ∗ ((bigSepL xs (fun k => Flying 0 k c) ∗ ∃ W', owes (c : Thread nD τ) (owed l) W') -∗ Kt ⟨⟩))
      ⊢ wp frame (wpE (defs₀ (F := F)) 𝒱₀ (c : Thread nD τ) none) Set.univ
          (each (startCopy (F := F) sndM hsnd rcvM hrcv cc0_scratch3 cc0_scratch4 c 0) xs) Kt := by
  refine each_wp c _ _ _ (known part K) (due c 0) (fun _ => True) (fun _ _ _ => trivial) (fun k l _ W Kt => ?_) xs l trivial W Kt
  refine BIBase.Entails.trans ?_ (start_wp part K 0 k c hsnd hrcv l W Kt)
  iintro ⟨#HI, ⟨HR, HD, HS⟩, HO, Hk⟩
  isplitr; · iexact HI
  isplitl [HR]; · iexact HR
  isplitl [HD]; · iexact HD
  isplitl [HS]; · iexact HS
  isplitl [HO]; · iexact HO
  iintro ⟨Hf, HO⟩
  iapply Hk
  isplitl [Hf]; · iexact Hf
  iexists W; iexact HO

/-- Taking all row blocks of round `r` and sending them on in the next. -/
theorem hops_wp (hsnd : sndM.IsWhole) (hrcv : rcvM.IsWhole) (r : Fin 2) (l : List (GSem nD τ sig × ℕ)) (hl : Later (2 + r.val) l)
    (W : Waits sig Unit) (Kt : PUnit → sProp 𝕄) :
    iprop((known part K ∗ levAts L lv)
        ∗ bigSepL rows (fun k => iprop(Flying r.castSucc k c ∗ OutAt part k c r.castSucc.val ∗ (∃ f, sndPts r.succ k c f) ∗ Ready r.succ k c ∗ Dest r.succ k c))
        ∗ owes (c : Thread nD τ) (owed (rows.flatMap (due c r.succ) ++ l)) W
        ∗ ((bigSepL rows (fun k => iprop(Done r.castSucc k c ∗ OutAt part k c r.succ.val ∗ Flying r.succ k c))
            ∗ ∃ W', owes (c : Thread nD τ) (owed l) W') -∗ Kt ⟨⟩))
      ⊢ wp frame (wpE (defs₀ (F := F)) 𝒱₀ (c : Thread nD τ) none) Set.univ
          (each (hop (F := F) outM sndM hsnd rcvM hrcv cc0_scratch3 cc0_scratch4 c r) rows) Kt := by
  refine each_wp c _ _ _ iprop(known part K ∗ levAts L lv) (due c r.succ) (Later (2 + r.val))
    (fun k l h => due_later c r.succ (by rw [Fin.val_succ]; omega) k l h) (fun k l h W Kt => ?_) rows l hl W Kt
  refine BIBase.Entails.trans ?_ (hop_wp part K k c hsnd hrcv r l h W Kt)
  iintro ⟨⟨#HI, #Hlev⟩, HP, HO, Hk⟩
  isplitr; · iexact HI
  isplitr; · iexact Hlev
  isplitl [HP]; · iexact HP
  isplitl [HO]; · iexact HO
  iexact Hk

/-- Taking all row blocks of the last round. -/
theorem takes_wp (hsnd : sndM.IsWhole) (hrcv : rcvM.IsWhole) (l : List (GSem nD τ sig × ℕ)) (hl : Later 4 l)
    (W : Waits sig Unit) (Kt : PUnit → sProp 𝕄) :
    iprop((known part K ∗ levAts L lv)
        ∗ bigSepL rows (fun k => iprop(Flying 2 k c ∗ OutAt part k c 2))
        ∗ owes (c : Thread nD τ) (owed l) W
        ∗ ((bigSepL rows (fun k => iprop(Done 2 k c ∗ OutAt part k c 3)) ∗ ∃ W', owes (c : Thread nD τ) (owed l) W') -∗ Kt ⟨⟩))
      ⊢ wp frame (wpE (defs₀ (F := F)) 𝒱₀ (c : Thread nD τ) none) Set.univ
          (each (fun k => do let _ ← takeRows (F := F) outM sndM hsnd rcvM hrcv cc0_scratch3 cc0_scratch4 2 k; pure ⟨⟩) rows) Kt := by
  have e : rows.flatMap (fun _ : Fin 8 => ([] : List (GSem nD τ sig × ℕ))) ++ l = l := rfl
  rw [show owed l = owed (rows.flatMap (fun _ : Fin 8 => ([] : List (GSem nD τ sig × ℕ))) ++ l) by rw [e]]
  nth_rewrite 2 [e]
  refine each_wp c _ (fun k => iprop(Flying 2 k c ∗ OutAt part k c 2)) (fun k => iprop(Done 2 k c ∗ OutAt part k c 3))
    iprop(known part K ∗ levAts L lv) (fun _ => []) (Later 4)
    (fun _ _ h => h) (fun k l h W Kt => ?_) rows l hl W Kt
  rw [wp_bind]
  iintro ⟨⟨#HI, #Hlev⟩, ⟨Hf, Ho⟩, HO, Hk⟩
  iapply (take_wp part K 2 k c hsnd hrcv l h W)
  isplitr; · iexact HI
  isplitr; · iexact Hlev
  isplitl [Hf]; · iexact Hf
  isplitl [Ho]; · iexact Ho
  isplitl [HO]; · iexact HO
  iintro ⟨Hd, Ho, HO⟩
  rw [wp_pure]
  imodintro
  iapply Hk
  isplitr [HO]
  · isplitl [Hd]; · iexact Hd
    iexact Ho
  iexact HO

/-! ## Everything given back -/

theorem done_all :
    iprop((bigSepL rows fun k => Done (F := F) 0 k c) ∗ (bigSepL rows fun k => Done 1 k c) ∗ bigSepL rows fun k => Done 2 k c)
      ⊢ iprop((bigSep Finset.univ fun p : SlotId => atPos ER (sendCell p.1 p.2 c) (0 + 1) ∅ 0)
        ∗ (bigSep Finset.univ fun p : SlotId => atPos ER (recvCell p.1 p.2 c) (0 + 1) ∅ 0)
        ∗ (bigSep Finset.univ fun p : SlotId => iprop(∃ f, sndPts p.1 p.2 c f))
        ∗ bigSep Finset.univ fun p : SlotId => iprop(∃ f, rcvPts p.1 p.2 c f)) := by
  rw [← listed, ← listed, ← listed, ← fin3 (fun r => bigSep Finset.univ fun k => Done (F := F) r k c),
    ← bigSep_sep', ← bigSep_sep', ← bigSep_sep', bigSep_univ_prod]
  exact .rfl

variable (X : Vec F S512x512 .bf16) (WQ : Vec F S512x256 .bf16) (KS VS : Vec F S8x256x64 .bf16) (WO : Vec F S256x512 .bf16)

theorem sent_at (hpart : part c = partOf X WQ KS VS WO) (b : Fin 2) (xs : List (Fin 8)) (hk : ∀ k ∈ xs, k.val / 4 = b.val)
    (fs : cc0_scratch1.ty.Contents (Elt F)) :
    bigSepL xs (fun k => sndPts 0 k c (sndBuf b (project (ctxOf X WQ KS VS b) WO) fs)) ⊢ bigSepL xs fun k => SendAt part 0 k c := by
  have h (k : Fin 8) (e : k.val / 4 = b.val) : sndPts 0 k c (sndBuf b (project (ctxOf X WQ KS VS b) WO) fs) ⊢ SendAt part 0 k c := by
    unfold SendAt
    iintro H
    iexists (sndBuf b (project (ctxOf X WQ KS VS b) WO) fs)
    isplitr
    · ipureintro; exact send_reads c part X WQ KS VS WO hpart b k e fs
    iexact H
  exact bigSepL_mono fun k hm => h k (hk k hm)

theorem weaken (r : Fin 3) (fs : cc0_scratch1.ty.Contents (Elt F)) :
    bigSepL rows (fun k => sndPts r k c fs) ⊢ bigSepL rows fun k => iprop(∃ f, sndPts r k c f) := by
  have h (k : Fin 8) : sndPts r k c fs ⊢ iprop(∃ f, sndPts r k c f) := by
    iintro H
    iexists fs
    iexact H
  exact bigSepL_mono fun k _ => h k

theorem out_first (b : Fin 2) (fo : cc0_stg5_0.ty.Contents (Elt F)) :
    (outM.access (halfRect b)).read (Elt F) (outBuf X WQ KS VS WO b fo) = project (ctxOf X WQ KS VS b) WO :=
  View.read_write_univ ..

/-- Both halves of the accumulator written: each row block holds the device's partial result. -/
theorem out_both (hpart : part c = partOf X WQ KS VS WO) (fo : cc0_stg5_0.ty.Contents (Elt F)) :
    outBuf X WQ KS VS WO 1 (outBuf X WQ KS VS WO 0 fo) = part c := by
  rw [hpart]
  funext i
  have h0 : (i 0).val < 512 := (i 0).isLt
  obtain ⟨b, hb⟩ : ∃ b : Fin 2, b.val = (i 0).val / 256 := ⟨⟨(i 0).val / 256, by omega⟩, rfl⟩
  obtain ⟨j, hj⟩ : ∃ j : S256x512.Idx, i = (halfRect b).emb j := by
    refine ⟨ValueIdx.ix2 (n0 := 256) (n1 := 512) ⟨(i 0).val % 256, by omega⟩ (i 1), ?_⟩
    funext a
    match a with
    | ⟨0, _⟩ =>
      refine Fin.ext ?_
      show (i 0).val = 256 * b.val + 1 * ((i 0).val % 256)
      omega
    | ⟨1, _⟩ =>
      refine Fin.ext ?_
      show (i 1).val = 0 + 1 * (i 1).val
      omega
  rw [hj, partOf_half]
  clear hj hb
  show outM.view.read (Elt F) (outBuf X WQ KS VS WO 1 (outBuf X WQ KS VS WO 0 fo)) ((halfRect b).emb j) = _
  fin_cases b
  · refine (View.read_slice_write_of_not_mem (Val := Elt F) (v := outM.view) (halfRect 1) (outBuf X WQ KS VS WO 0 fo)
      (project (ctxOf X WQ KS VS 1) WO) Finset.univ (y := (halfRect 0).emb j) fun hm => ?_).trans
      (View.read_slice_write_emb (Val := Elt F) (v := outM.view) (halfRect 0) fo (project (ctxOf X WQ KS VS 0) WO) (x := j) (Finset.mem_univ j))
    obtain ⟨i, -, hi⟩ := Finset.mem_map.mp hm
    have h1 : ((halfRect 1).emb i 0).val = ((halfRect 0).emb j 0).val := congrArg (fun x => (x 0).val) hi
    rw [Rect.emb_apply, Rect.emb_apply] at h1
    have hlt : (j 0).val < 256 := (j 0).isLt
    have h2 : 256 * 1 + 1 * (i 0).val = 256 * 0 + 1 * (j 0).val := h1
    omega
  · exact View.read_slice_write_emb (Val := Elt F) (v := outM.view) (halfRect 1) (outBuf X WQ KS VS WO 0 fo) (project (ctxOf X WQ KS VS 1) WO)
      (x := j) (Finset.mem_univ j)

theorem out_start (hpart : part c = partOf X WQ KS VS WO) (fo : cc0_stg5_0.ty.Contents (Elt F)) :
    pt c cc0_stg5_0 (outBuf X WQ KS VS WO 1 (outBuf X WQ KS VS WO 0 fo)) ⊢ bigSepL rows fun k => OutAt part k c 0 := by
  rw [out_both part c X WQ KS VS WO hpart]
  have h (k : Fin 8) : outPts k c (part c) ⊢ OutAt part k c 0 := by
    unfold OutAt
    iintro H
    iexists (part c)
    isplitr
    · ipureintro; rfl
    iexact H
  exact (out_split c (part c)).trans (bigSepL_mono fun k _ => h k)

end Cert.KernelIdeal.Talk

end
-- ==== Proof.BodyEq.lean ====
/- The printed body is the short program of `Body`. -/
module

public import proofs.«01_k».proof.Proof.Body

@[expose] public section

noncomputable section

namespace Cert.KernelIdeal.Talk

open Idealize.ShloMosaic Idealize.SL.Sem Cert.KernelIdeal.Gen

variable {F : FTy → Type} [FloatOps F]

theorem op_congr {E : Type → Type} {A B : Type} {a a' : E A} {k k' : A → Prog E B} (h : a = a') (hk : ∀ x, k x = k' x) : Prog.op a k = Prog.op a' k' := by subst h; exact congrArg _ (funext hk)

set_option maxHeartbeats 0 in
set_option maxRecDepth 100000 in
theorem body_eq (x : Memref sig .tc .vmem S512x512 .bf16) (hx : x.IsWhole)
    (wq : Memref sig .tc .vmem S512x256 .bf16) (hwq : wq.IsWhole)
    (ks : Memref sig .tc .vmem S8x256x64 .bf16) (hks : ks.IsWhole)
    (vs : Memref sig .tc .vmem S8x256x64 .bf16) (hvs : vs.IsWhole)
    (wo : Memref sig .tc .vmem S256x512 .bf16) (hwo : wo.IsWhole)
    (out : Memref sig .tc .vmem S512x512 .f32) (hout : out.IsWhole)
    (cx : Memref sig .tc .vmem S512x256 .bf16) (hcx : cx.IsWhole)
    (snd : Memref sig .tc .vmem S3x512x512 .bf16) (hsnd : snd.IsWhole)
    (rcv : Memref sig .tc .vmem S3x512x512 .bf16) (hrcv : rcv.IsWhole)
    (sS sR : DmaSems sig S3x8) (ex : Sems sig S_) :
    cc0__body (F := F) x hx wq hwq ks hks vs hvs wo hwo out hout cx hcx snd hsnd rcv hrcv sS sR ex
      = body x wq ks vs wo out cx hcx snd hsnd rcv hrcv sS sR ex := by
  repeat (refine op_congr rfl (fun _ => ?_))
  rfl

end Cert.KernelIdeal.Talk

end
-- ==== Proof.Call.lean ====
/- One device's whole call: from its operands, its buffers, its tickets of the exchange and its open
   semaphores to its result, with every semaphore closed at zero. -/
module

public import proofs.«01_k».proof.Proof.Run
public import proofs.«01_k».proof.Proof.BodyEq

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (part : Dev nD → FVec F S512x512 .f32) (K : GSem nD τ sig → ℕ) (c : Dev nD)
variable (X : Vec F S512x512 .bf16) (WQ : Vec F S512x256 .bf16) (KS VS : Vec F S8x256x64 .bf16) (WO : Vec F S256x512 .bf16)

/-- Before the call. -/
def Before (W : Waits sig Unit) : sProp 𝕄 :=
  iprop((known part K ∗ levAts L lv) ∗ Ops X WQ KS VS WO c ∗ (∃ f, pt c cc0_stg5_0 f) ∗ (∃ f, pt c cc0_scratch0 f)
    ∗ (∃ f, pt c cc0_scratch1 f) ∗ (∃ f, pt c cc0_scratch2 f) ∗ Grant c ∗ Opened c ∗ owes (c : Thread nD τ) (owed (dues c)) W)
/-- After the call. -/
def After : sProp 𝕄 :=
  iprop(Ops X WQ KS VS WO c ∗ pt c cc0_stg5_0 (total c part) ∗ (∃ f, pt c cc0_scratch0 f)
    ∗ (∃ f, pt c cc0_scratch1 f) ∗ (∃ f, pt c cc0_scratch2 f) ∗ Closed c ∗ ∃ W, owes (c : Thread nD τ) (owed []) W)

/-- What is still owed once the copies of rounds 0 and 1, of round 0, of its first half, and none are on their way. -/
abbrev left2 : List (GSem nD τ sig × ℕ) := rows.flatMap (due c 2) ++ exits c
abbrev left1 : List (GSem nD τ sig × ℕ) := rows.flatMap (due c 1) ++ left2 c
abbrev left0 : List (GSem nD τ sig × ℕ) := ([4, 5, 6, 7] : List (Fin 8)).flatMap (due c 0) ++ left1 c
abbrev leftAll : List (GSem nD τ sig × ℕ) := ([0, 1, 2, 3] : List (Fin 8)).flatMap (due c 0) ++ left0 c

/-- What a device owes, as it pays it. -/
theorem dues_eq : dues c = ([0, 1, 2] : List (Fin 3)).map (fun d => (regCell barrier0 (peer d c), 1)) ++ leftAll c := rfl

theorem left2_later : Later 2 (left2 c) := dues_later c 2 (by decide) _ _ (exits_ok c (by decide))
theorem leftAll_later : Later (level (role (.reg barrier0))) (leftAll c) := by
  rw [role_bar]
  exact dues_later c 0 (by decide) _ _ (dues_later c 0 (by decide) _ _ (dues_later c 1 (by decide) _ _ (dues_later c 2 (by decide) _ _
    (exits_ok c (by decide)))))

theorem meet_dev (dev : Fin 3 → Dev nD) (h : ∀ r, dev r = peer r c) (s : Sem sig) :
    meet (F := F) dev s = meet (fun d => peer d c) s := by
  rw [show dev = fun d => peer d c from funext h]

set_option maxHeartbeats 2000000 in
theorem body_wp (hpart : part c = partOf X WQ KS VS WO) (hcx : cxM.IsWhole) (hsnd : sndM.IsWhole) (hrcv : rcvM.IsWhole)
    (W : Waits sig Unit) (Kt : PUnit → sProp 𝕄) :
    iprop(Before part K c X WQ KS VS WO W ∗ (After part c X WQ KS VS WO -∗ Kt ⟨⟩))
      ⊢ wp frame (wpE (defs₀ (F := F)) 𝒱₀ (c : Thread nD τ) none) Set.univ
          (body (F := F) xM wqM ksM vsM woM outM cxM hcx sndM hsnd rcvM hrcv cc0_scratch3 cc0_scratch4 cc0_scoped0) Kt := by
  unfold body
  simp only [Prog.lift, Prog.bind_op, Prog.bind_ret, wp_deviceId]
  rw [meet_dev c (fun r => barDev r c) (fun r => barDev_eq r c), meet_dev c (fun r => endDev r c) (fun r => endDev_eq r c)]
  unfold Before Grant Opened
  rw [dues_eq, own_split, fin3]
  iintro ⟨⟨⟨#HI, #Hlev⟩, Hops, ⟨%fo, Hout⟩, ⟨%fx, Hcx⟩, ⟨%fs, Hsnd⟩, ⟨%fr, Hrcv⟩, ⟨HatB, HcB, HcE, ⟨HG0, HG1, HG2⟩, Htk⟩,
    ⟨⟨HatE, #HrE⟩, HoS, HoR⟩, HO⟩, Hk⟩
  ihave H := (ready_all c) $$ [HoS HoR Htk]
  · isplitl [HoS]; · iexact HoS
    isplitl [HoR]; · iexact HoR
    iexact Htk
  rw [bigSep_univ_prod, bigSep_univ_prod, fin3, fin3, listed, listed, listed]
  icases H with ⟨⟨HR0, HR1, HR2⟩, HrR0, HrR1, HrR2⟩
  ihave H := ((rcv_split c fr).trans (Entails.of_eq (fin3 _))) $$ Hrcv
  icases H with ⟨HD0, HD1, HD2⟩
  -- the first batch entry
  rw [wp_bind]
  iapply (batch_wp X WQ KS VS WO c hcx 0 fx fo)
  isplitl [Hops]; · iexact Hops
  isplitl [Hcx]; · iexact Hcx
  isplitl [Hout]; · iexact Hout
  iintro ⟨Hops, ⟨%fx', Hcx⟩, Hout⟩
  -- the first meeting
  ihave H := (greet_call part c 0) $$ [HG0 HD0 HrR0]
  · isplitr; · iexact HrE
    isplitl [HG0]; · iexact HG0
    isplitl [HD0]; · iexact HD0
    iexact HrR0
  icases H with ⟨HC0, HtE0⟩
  ihave H := (greet_call part c 1) $$ [HG1 HD1 HrR1]
  · isplitr; · iexact HrE
    isplitl [HG1]; · iexact HG1
    isplitl [HD1]; · iexact HD1
    iexact HrR1
  icases H with ⟨HC1, HtE1⟩
  ihave H := (greet_call part c 2) $$ [HG2 HD2 HrR2]
  · isplitr; · iexact HrE
    isplitl [HG2]; · iexact HG2
    isplitl [HD2]; · iexact HD2
    iexact HrR2
  icases H with ⟨HC2, HtE2⟩
  rw [wp_bind]
  iapply (meet_wp part K c barrier0 (by rw [role_bar]; rfl) (by rw [role_bar]; rfl) bar_mem (leftAll c) (leftAll_later c) W)
  isplitr; · iexact HI
  isplitr; · iexact Hlev
  isplitl [HC0 HC1 HC2]
  · isplitl [HC0]; · iexact HC0
    isplitl [HC1]; · iexact HC1
    iexact HC2
  isplitl [HatB]; · iexact HatB
  isplitl [HcB]; · iexact HcB
  isplitl [HO]; · iexact HO
  rw [fin3]
  iintro ⟨HatB, ⟨HP0, HP1, HP2⟩, ⟨%W1, HO⟩⟩
  ihave H := (welcomed part c 0) $$ HP0
  icases H with ⟨HD0, #HrE0⟩
  ihave H := (welcomed part c 1) $$ HP1
  icases H with ⟨HD1, #HrE1⟩
  ihave H := (welcomed part c 2) $$ HP2
  icases H with ⟨HD2, #HrE2⟩
  -- the first half on its way
  rw [wp_bind]
  iapply (stage_wp c hsnd 0 _ _ (out_first X WQ KS VS WO 0 fo) Finset.univ (Finset.subset_univ _) fs)
  isplitl [Hout]; · iexact Hout
  isplitl [Hsnd]; · iexact Hsnd
  iintro ⟨Hout, Hsnd⟩
  ihave H := (snd_first c _) $$ Hsnd
  icases H with ⟨Hs, Hsnd⟩
  ihave Hs := (sent_at part c X WQ KS VS WO hpart 0 [0, 1, 2, 3] (by decide) fs) $$ Hs
  ihave HR0 := (Entails.of_eq (list_two (fun k => Ready 0 k c))) $$ HR0
  ihave HD0 := (Entails.of_eq (list_two (fun k => Dest 0 k c))) $$ HD0
  icases HR0 with ⟨HR0, HR0'⟩
  icases HD0 with ⟨HD0, HD0'⟩
  rw [wp_bind]
  iapply (starts_wp part K c hsnd hrcv [0, 1, 2, 3] (left0 c) W1)
  isplitr; · iexact HI
  isplitl [HR0 HD0 Hs]
  · rw [list_sep, list_sep]
    isplitl [HR0]; · iexact HR0
    isplitl [HD0]; · iexact HD0
    iexact Hs
  isplitl [HO]; · iexact HO
  iintro ⟨Hf, ⟨%W2, HO⟩⟩
  -- the second batch entry
  rw [wp_bind]
  iapply (batch_wp X WQ KS VS WO c hcx 1 fx' _)
  isplitl [Hops]; · iexact Hops
  isplitl [Hcx]; · iexact Hcx
  isplitl [Hout]; · iexact Hout
  iintro ⟨Hops, Hcx, Hout⟩
  -- the second half on its way
  rw [wp_bind]
  iapply (stage_wp c hsnd 1 _ _ (out_first X WQ KS VS WO 1 _) (restSlots.biUnion slotSet) half_rest _)
  isplitl [Hout]; · iexact Hout
  isplitl [Hsnd]; · iexact Hsnd
  iintro ⟨Hout, Hsnd⟩
  ihave H := (snd_second c _) $$ Hsnd
  icases H with ⟨Hs, Hs1, Hs2⟩
  ihave Hs := (sent_at part c X WQ KS VS WO hpart 1 [4, 5, 6, 7] (by decide) _) $$ Hs
  ihave Hs1 := (weaken c 1 _) $$ Hs1
  ihave Hs2 := (weaken c 2 _) $$ Hs2
  rw [wp_bind]
  iapply (starts_wp part K c hsnd hrcv [4, 5, 6, 7] (left1 c) W2)
  isplitr; · iexact HI
  isplitl [HR0' HD0' Hs]
  · rw [list_sep, list_sep]
    isplitl [HR0']; · iexact HR0'
    isplitl [HD0']; · iexact HD0'
    iexact Hs
  isplitl [HO]; · iexact HO
  iintro ⟨Hf', ⟨%W3, HO⟩⟩
  ihave Hout := (out_start part c X WQ KS VS WO hpart fo) $$ Hout
  -- round 0 received and round 1 on its way
  rw [wp_bind]
  iapply (hops_wp part K c hsnd hrcv 0 (left2 c) (left2_later c) W3)
  isplitr
  · isplitr; · iexact HI
    iexact Hlev
  isplitl [Hf Hf' Hout Hs1 HR1 HD1]
  · rw [list_sep, list_sep, list_sep, list_sep]
    isplitl [Hf Hf']
    · rw [list_two]
      isplitl [Hf]; · iexact Hf
      iexact Hf'
    isplitl [Hout]; · iexact Hout
    isplitl [Hs1]; · iexact Hs1
    isplitl [HR1]; · iexact HR1
    iexact HD1
  isplitl [HO]; · iexact HO
  rw [list_sep, list_sep]
  iintro ⟨⟨Hdone0, Hout, Hf⟩, ⟨%W4, HO⟩⟩
  -- round 1 received and round 2 on its way
  rw [wp_bind]
  iapply (hops_wp part K c hsnd hrcv 1 (exits c) (exits_ok c (by decide)) W4)
  isplitr
  · isplitr; · iexact HI
    iexact Hlev
  isplitl [Hf Hout Hs2 HR2 HD2]
  · rw [list_sep, list_sep, list_sep, list_sep]
    isplitl [Hf]; · iexact Hf
    isplitl [Hout]; · iexact Hout
    isplitl [Hs2]; · iexact Hs2
    isplitl [HR2]; · iexact HR2
    iexact HD2
  isplitl [HO]; · iexact HO
  rw [list_sep, list_sep]
  iintro ⟨⟨Hdone1, Hout, Hf⟩, ⟨%W5, HO⟩⟩
  -- round 2 received
  rw [wp_bind]
  iapply (takes_wp part K c hsnd hrcv (exits c) (exits_ok c (by decide)) W5)
  isplitr
  · isplitr; · iexact HI
    iexact Hlev
  isplitl [Hf Hout]
  · rw [list_sep]
    isplitl [Hf]; · iexact Hf
    iexact Hout
  isplitl [HO]; · iexact HO
  rw [list_sep]
  iintro ⟨⟨Hdone2, Hout⟩, ⟨%W6, HO⟩⟩
  -- the last meeting
  iapply wp_fupd
  iapply (meet_wp part K c exS (by rw [role_exit]; rfl) (by rw [role_exit]; rfl) exit_mem [] (fun x hx => absurd hx List.not_mem_nil) W6)
  isplitr; · iexact HI
  isplitr; · iexact Hlev
  isplitl [HtE0 HtE1 HtE2]
  · isplitl [HtE0]
    · iapply (leave_call part c 0)
      isplitl [HtE0]; · iexact HtE0
      iexact HrE0
    isplitl [HtE1]
    · iapply (leave_call part c 1)
      isplitl [HtE1]; · iexact HtE1
      iexact HrE1
    iapply (leave_call part c 2)
    isplitl [HtE2]; · iexact HtE2
    iexact HrE2
  isplitl [HatE]; · iexact HatE
  isplitl [HcE]; · iexact HcE
  isplitl [HO]; · iexact HO
  iintro ⟨HatE, -, HO⟩
  ihave H := (done_all c) $$ [Hdone0 Hdone1 Hdone2]
  · isplitl [Hdone0]; · iexact Hdone0
    isplitl [Hdone1]; · iexact Hdone1
    iexact Hdone2
  icases H with ⟨HS, HR, Hsnd, Hrcv⟩
  ihave Hsnd := (snd_join c fs) $$ Hsnd
  ihave Hrcv := (rcv_join c fr) $$ Hrcv
  ihave Hout := (out_join c part fo) $$ Hout
  imod (close_all part K c) $$ [HatB HatE HS HR] with Hclosed
  · isplitr; · iexact HI
    isplitl [HatB]; · iexact HatB
    rw [own_split]
    isplitl [HatE]; · iexact HatE
    isplitl [HS]; · iexact HS
    iexact HR
  imodintro
  iapply Hk
  unfold After
  isplitl [Hops]; · iexact Hops
  isplitl [Hout]; · iexact Hout
  isplitl [Hcx]; · iexact Hcx
  isplitl [Hsnd]; · iexact Hsnd
  isplitl [Hrcv]; · iexact Hrcv
  isplitl [Hclosed]; · iexact Hclosed
  iexact HO

end Cert.KernelIdeal.Talk

end
-- ==== Proof.Region.lean ====
/- The kernel region of @main: entered with its operands in HBM, the exchange's invariants and a device's grant;
   left with the sum of all devices' partial results in the result's buffer and the barrier at zero. -/
module

public import proofs.«01_k».proof.Proof.Call
public import proofs.«01_k».proof.Proof.BodyEq
public import proofs.«01_k».proof.Proof.Gen.KernelIdeal.Regions
public import proofs.«01_k».proof.Proof.Gen.KernelIdeal.Points

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## What the host code before the call computes, and what the call makes of it -/

abbrev inX (c : Dev nD) : Vec F S512x512 .bf16 := V1 m c main_v15
abbrev inWQ (c : Dev nD) : Vec F S512x256 .bf16 := V1 m c main_v9
abbrev inKS (c : Dev nD) : Vec F S8x256x64 .bf16 := V1 m c main_v17
abbrev inVS (c : Dev nD) : Vec F S8x256x64 .bf16 := V1 m c main_v19
abbrev inWO (c : Dev nD) : Vec F S256x512 .bf16 := V1 m c main_v14

/-- Device `c`'s partial result. -/
def parts (c : Dev nD) : FVec F S512x512 .f32 := partOf (inX m c) (inWQ m c) (inKS m c) (inVS m c) (inWO m c)

/-- What the call leaves in `main_v20`. -/
def outs : Outs (F := F) := fun _ r c => if h : r = main_v20 then h ▸ (total c (parts m) : main_v20.ty.Contents (Elt F)) else V1 m c r

theorem outs_eq (c : Dev nD) : outs m 2 main_v20 c = total c (parts m) := dif_pos rfl

/-! ## The region's data -/

def dueAt (c : Dev nD) : CellTallies nD τ sig Unit := owed (dues c)

/-- What the call starts from, beside its operands. -/
def Xk (c : Dev nD) : sProp 𝕄 := iprop((∃ K, known (parts m) K) ∗ levAts L lv ∗ Grant c ∗ Opened c)

/-- The scratch buffers, at any contents. -/
def Scratch (c : Dev nD) : sProp 𝕄 :=
  iprop((∃ f, pt c cc0_scratch0 f) ∗ (∃ f, pt c cc0_scratch1 f) ∗ (∃ f, pt c cc0_scratch2 f))

/-- The region's invariant before its one point, and after. -/
def stateOf (c : Dev nD) : ℕ → sProp 𝕄
  | 0 => iprop(Xk m c ∗ Scratch c ∗ ∃ r, prngReg c r)
  | _ + 1 => iprop(Closed c ∗ Scratch c ∗ ∃ r, prngReg c r)
/-- What is owed before the point, and after. -/
def dueOf (c : Dev nD) : ℕ → CellTallies nD τ sig Unit
  | 0 => dueAt c
  | _ + 1 => 0

def dat (c : Dev nD) : Dat τ (Elt F) Unit ℕ UU ℕ cfg0 c where
  A w := V1 m c (Proc.devRef .tc (Pipeline.arrRef spec0 w))
  after w _ := match w with
    | ⟨0, _⟩ => inX m c
    | ⟨1, _⟩ => inWQ m c
    | ⟨2, _⟩ => inKS m c
    | ⟨3, _⟩ => inVS m c
    | ⟨4, _⟩ => inWO m c
    | ⟨5, _⟩ => total c (parts m)
  Φ t := stateOf m c t.val
  q _ := fullShare
  owed t := dueOf c t.val

def pdats : (p : Fin 1) → (c : Dev nD) → Dat τ (Elt F) Unit ℕ UU ℕ (Pipeline.pin (pcfgs (F := F)) adm p) c
  | 0 => dat m

/-- A whole array's one block, read at an index, is the array there. -/
theorem whole_at (n i : ℕ) : 0 * n + 1 * i = i := by omega

theorem before0 (c : Dev nD) (d : (cfg0.win 0).block.Idx → Elt F (cfg0.win 0).elt) : (dat m c).before 0 t0_0 d = inX m c := by
  unfold Dat.before; rw [if_pos (fetch0_0 t0_0)]
  exact funext fun j => congrArg (V1 m c main_v15) (funext fun a => Fin.ext (whole_at _ _))
theorem before1 (c : Dev nD) (d : (cfg0.win 1).block.Idx → Elt F (cfg0.win 1).elt) : (dat m c).before 1 t0_0 d = inWQ m c := by
  unfold Dat.before; rw [if_pos (fetch0_1 t0_0)]
  exact funext fun j => congrArg (V1 m c main_v9) (funext fun a => Fin.ext (whole_at _ _))
theorem before2 (c : Dev nD) (d : (cfg0.win 2).block.Idx → Elt F (cfg0.win 2).elt) : (dat m c).before 2 t0_0 d = inKS m c := by
  unfold Dat.before; rw [if_pos (fetch0_2 t0_0)]
  exact funext fun j => congrArg (V1 m c main_v17) (funext fun a => Fin.ext (whole_at _ _))
theorem before3 (c : Dev nD) (d : (cfg0.win 3).block.Idx → Elt F (cfg0.win 3).elt) : (dat m c).before 3 t0_0 d = inVS m c := by
  unfold Dat.before; rw [if_pos (fetch0_3 t0_0)]
  exact funext fun j => congrArg (V1 m c main_v19) (funext fun a => Fin.ext (whole_at _ _))
theorem before4 (c : Dev nD) (d : (cfg0.win 4).block.Idx → Elt F (cfg0.win 4).elt) : (dat m c).before 4 t0_0 d = inWO m c := by
  unfold Dat.before; rw [if_pos (fetch0_4 t0_0)]
  exact funext fun j => congrArg (V1 m c main_v14) (funext fun a => Fin.ext (whole_at _ _))

theorem result_read (f : main_v20.ty.Contents (Elt F)) : ((cfg0.win 5).blk t0_0).view.read (Elt F) f = f :=
  funext fun j => congrArg f (funext fun a => Fin.ext (whole_at _ _))

theorem result_at (c : Dev nD) : (dat m c).arrAt 5 cfg0.N = total c (parts m) := by
  rw [show cfg0.N = 1 from N_0]
  unfold Dat.arrAt
  rw [dif_pos (show 0 < cfg0.N from by rw [show cfg0.N = 1 from N_0]; decide)]
  refine (if_pos (flush0_5 t0_0)).trans ((result_read _).symm.trans ?_)
  exact View.read_write_univ ..

theorem result_after (c : Dev nD) : V2 m (outs m) c (Proc.devRef .tc main_v20) = total c (parts m) :=
  (Function.update_self (Proc.devRef .tc main_v20) (outs m 2 main_v20 c) (V1 m c)).trans (outs_eq m c)

theorem kept_at (c : Dev nD) (w : Fin 6) (hw : w ≠ 5) :
    (dat m c).arrAt w cfg0.N = V2 m (outs m) c (Proc.devRef .tc (Pipeline.arrRef spec0 w)) := by
  refine ((dat m c).arrAt_in w (by revert w; decide) _).trans ?_
  refine (V2_of m (outs m) c (Pipeline.arrRef spec0 w) ?_).symm
  revert w; decide

theorem arr_after (c : Dev nD) (w : Fin 6) : (dat m c).arrAt w cfg0.N = V2 m (outs m) c (Proc.devRef .tc (Pipeline.arrRef spec0 w)) := by
  by_cases hw : w = 5
  · subst hw
    exact (result_at m c).trans (result_after m c).symm
  · exact kept_at m c w hw

theorem owed_first (c : Dev nD) : (dat (F := F) m c).owed t0_0.castSucc = dueAt c := rfl
theorem owed_succ (c : Dev nD) : (dat (F := F) m c).owed t0_0.succ = 0 := rfl
theorem owed_last (c : Dev nD) : (dat (F := F) m c).owed (Fin.last _) = 0 := by
  show dueOf c cfg0.N = 0
  rw [show cfg0.N = 1 from N_0]; rfl
theorem state_first (c : Dev nD) : (dat (F := F) m c).Φ t0_0.castSucc = iprop(Xk m c ∗ Scratch c ∗ ∃ r, prngReg c r) := rfl
theorem state_succ (c : Dev nD) : (dat (F := F) m c).Φ t0_0.succ = iprop(Closed c ∗ Scratch c ∗ ∃ r, prngReg c r) := rfl
theorem state_last (c : Dev nD) : (dat (F := F) m c).Φ (Fin.last _) = iprop(Closed c ∗ Scratch c ∗ ∃ r, prngReg c r) := by
  show stateOf m c cfg0.N = _
  rw [show cfg0.N = 1 from N_0]; rfl

/-- What is owed at a point, whatever was recorded. -/
theorem owes_in (c : Dev nD) (t : Fin (cfg0.N + 1)) (O : CellTallies nD τ sig Unit) (h : (dat (F := F) m c).owed t = O) (W : Waits sig Unit) :
    (owes (c : Thread nD τ) O W : sProp 𝕄) ⊢ (dat (F := F) m c).owesAt () t := by
  unfold Dat.owesAt Pipeline.owesWithin Dat.bound
  rw [h]
  iintro HO
  iexists W
  isplitr; · ipureintro; exact fun _ _ => Or.inl trivial
  iexact HO
theorem owes_out (c : Dev nD) (t : Fin (cfg0.N + 1)) (O : CellTallies nD τ sig Unit) (h : (dat (F := F) m c).owed t = O) :
    ((dat (F := F) m c).owesAt () t : sProp 𝕄) ⊢ iprop(∃ W, owes (c : Thread nD τ) O W) := by
  unfold Dat.owesAt Pipeline.owesWithin
  rw [h]
  iintro ⟨%W, -, HO⟩
  iexists W; iexact HO

theorem owns_at (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem called : (defs₀ (F := F)) .tc cfg0.body (cfg0.bodyArgs t0_0 (cfg0.slots t0_0))
    = body (F := F) xM wqM ksM vsM woM outM cxM (Memref.isWhole_whole _) sndM (Memref.isWhole_whole _) rcvM (Memref.isWhole_whole _)
      cc0_scratch3 cc0_scratch4 cc0_scoped0 := by
  rw [← body_eq xM (hstage0_0 0) wqM (hstage0_1 0) ksM (hstage0_2 0) vsM (hstage0_3 0) woM (hstage0_4 0) outM (hstage0_5 0)]
  rfl

/-- A buffer at known contents. -/
theorem own_in (c : Dev nD) (b : Ref sig .tc) (X : b.ty.Contents (Elt F)) :
    ((((c : Thread nD τ).loc b) ↦{fullShare} X) : sProp 𝕄)
      ⊢ iprop(∃ f : Buf (Elt F) ((c : Thread nD τ).loc b), ⌜f = X⌝ ∗ (((c : Thread nD τ).loc b) ↦{fullShare} f)) := by
  iintro H
  iexists X
  isplitr; · ipureintro; rfl
  iexact H

set_option maxRecDepth 4000 in
theorem body_meets (c : Dev nD) : Pipeline.BodyObligation (dat (F := F) m c) (defs₀ (F := F)) 𝒱₀ () Set.univ := fun t => by
  obtain rfl := fin_N0 t
  rw [bigSep_W0, bigSep_W0, called]
  simp only [owns_at]
  rw [state_first, state_succ]
  unfold Xk Scratch
  iintro ⟨⟨⟨⟨%K, #HI⟩, #Hlev, HG, Hop⟩, ⟨Hcx, Hsnd, Hrcv⟩, Hp⟩, HO, ⟨%d0, %f0, %h0, H0⟩, ⟨%d1, %f1, %h1, H1⟩, ⟨%d2, %f2, %h2, H2⟩,
    ⟨%d3, %f3, %h3, H3⟩, ⟨%d4, %f4, %h4, H4⟩, ⟨%d5, %f5, -, H5⟩⟩
  rw [before0] at h0
  rw [before1] at h1
  rw [before2] at h2
  rw [before3] at h3
  rw [before4] at h4
  subst h0 h1 h2 h3 h4
  ihave HO := (owes_out m c t0_0.castSucc _ (owed_first m c)) $$ HO
  icases HO with ⟨%W, HO⟩
  iapply (body_wp (parts m) K c (inX m c) (inWQ m c) (inKS m c) (inVS m c) (inWO m c) rfl _ _ _ W)
  isplitr [Hp]
  · unfold Before Ops
    isplitr
    · isplitr; · iexact HI
      iexact Hlev
    isplitl [H0 H1 H2 H3 H4]
    · isplitl [H0]; · iexact H0
      isplitl [H1]; · iexact H1
      isplitl [H2]; · iexact H2
      isplitl [H3]; · iexact H3
      iexact H4
    isplitl [H5]
    · iexists f5; iexact H5
    isplitl [Hcx]; · iexact Hcx
    isplitl [Hsnd]; · iexact Hsnd
    isplitl [Hrcv]; · iexact Hrcv
    isplitl [HG]; · iexact HG
    isplitl [Hop]; · iexact Hop
    iexact HO
  unfold After Ops
  iintro ⟨⟨H0, H1, H2, H3, H4⟩, H5, Hcx, Hsnd, Hrcv, Hcl, ⟨%W', HO⟩⟩
  isplitl [Hcl Hcx Hsnd Hrcv Hp]
  · isplitl [Hcl]; · iexact Hcl
    isplitr [Hp]
    · isplitl [Hcx]; · iexact Hcx
      isplitl [Hsnd]; · iexact Hsnd
      iexact Hrcv
    iexact Hp
  isplitl [HO]
  · iapply (owes_in m c t0_0.succ _ (owed_succ m c) W')
    iexact HO
  isplitl [H0]; · iapply (own_in c cc0_stg0_0 _); iexact H0
  isplitl [H1]; · iapply (own_in c cc0_stg1_0 _); iexact H1
  isplitl [H2]; · iapply (own_in c cc0_stg2_0 _); iexact H2
  isplitl [H3]; · iapply (own_in c cc0_stg3_0 _); iexact H3
  isplitl [H4]; · iapply (own_in c cc0_stg4_0 _); iexact H4
  iapply (own_in c cc0_stg5_0 _); iexact H5

/-! ## The region's record -/

/-- What the launch leaves a device for the call: the protocol, the rights to open the semaphores, and its grant. -/
def Tk (c : Dev nD) : sProp 𝕄 :=
  iprop((∃ K, known (parts m) K) ∗ (bigSep Finset.univ fun s : OwnSem => openTok ER ((c : Thread nD τ), osem s)) ∗ Grant c)
/-- What the call leaves: the barrier at zero. -/
def Yk (c : Dev nD) : sProp 𝕄 := semVal (barCell c) 0

theorem open_all (K : GSem nD τ sig → ℕ) (c : Dev nD) :
    iprop(known (parts m) K ∗ (bigSep Finset.univ fun s : OwnSem => openTok ER ((c : Thread nD τ), osem s))
        ∗ bigSep Finset.univ fun s : OwnSem => semVal ((c : Thread nD τ), osem s) 0)
      ⊢ (|={Set.univ}=> Opened c : sProp 𝕄) := by
  have one (s : OwnSem) : iprop(known (parts m) K ∗ openTok ER ((c : Thread nD τ), osem s) ∗ semVal ((c : Thread nD τ), osem s) 0)
      ⊢ (|={Set.univ}=> iprop(atPos ER ((c : Thread nD τ), osem s) 0 ∅ 0 ∗ reached ER ((c : Thread nD τ), osem s) 0) : sProp 𝕄) := by
    iintro ⟨#HI, Ho, Hv⟩
    iapply (Rounds.cell_open ER (Rd (parts m)) (g := ((c : Thread nD τ), osem s)) (Set.mem_univ (K ((c : Thread nD τ), osem s))))
    isplitr; · iapply (known_at (parts m) K (own_mem c s)); iexact HI
    isplitl [Ho]; · iexact Ho
    iexact Hv
  rw [← bigSep_sep']
  unfold Opened
  iintro ⟨#HI, H⟩
  iapply ((bigSep_with_persistent (S := Finset.univ) (R := known (parts m) K)
      (Ψ := fun s : OwnSem => iprop(|={Set.univ}=> iprop(atPos ER ((c : Thread nD τ), osem s) 0 ∅ 0 ∗ reached ER ((c : Thread nD τ), osem s) 0)))
      fun s _ => one s).trans (bigSep_fupd _ _))
  isplitr; · iexact HI
  iexact H

theorem own_sems (c : Dev nD) : (Pipeline.ownSems0 osem c : sProp 𝕄) = bigSep Finset.univ fun s : OwnSem => semVal ((c : Thread nD τ), osem s) 0 := rfl

theorem opens (c : Dev nD) : iprop(Tk m c ∗ Pipeline.ownSems0 osem c ∗ levAts L lv) ⊢ (|={Set.univ}=> Xk m c : sProp 𝕄) := by
  unfold Tk Xk
  rw [own_sems]
  iintro ⟨⟨⟨%K, #HI⟩, Ho, HG⟩, Hs, #Hlev⟩
  imod (open_all m K c) $$ [Ho Hs] with H
  · isplitr; · iexact HI
    isplitl [Ho]; · iexact Ho
    iexact Hs
  imodintro
  isplitr
  · iexists K; iexact HI
  isplitr; · iexact Hlev
  isplitl [HG]; · iexact HG
  iexact H

theorem facts : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 osem := by decide +kernel

/-- The buffers in HBM that are no operand of the call. -/
abbrev others : Finset (DevRef τ sig) := Pipeline.ucRefs τ sig \ Pipeline.arrRefs (τ := τ) spec0

theorem enters (c : Dev nD) : iprop(Pipeline.scopedRest (Pipeline.pin (pcfgs (F := F)) adm 0).spec c ∗ (∃ r, prngReg c r)
    ∗ StableHlo.held (c.tc : Thread nD τ) ∅ (V1 m c) ∗ Xk m c) ⊢ (pdats m 0 c).Φ 0 := by
  rw [show (pdats m 0 c).Φ 0 = iprop(Xk m c ∗ Scratch c ∗ ∃ r, prngReg c r) from rfl,
    show (Pipeline.scopedRest (Pipeline.pin (pcfgs (F := F)) adm 0).spec c : sProp 𝕄) = Scratch c from scopedRest0_eq c]
  iintro ⟨Hs, Hp, -, HX⟩
  isplitl [HX]; · iexact HX
  isplitl [Hs]; · iexact Hs
  iexact Hp

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (pdats m 0 c).Φ (Fin.last (Pipeline.pin (pcfgs (F := F)) adm 0).N) = iprop(Closed c ∗ Scratch c ∗ ∃ r, prngReg c r) from state_last m c,
    show (Pipeline.scopedRest (Pipeline.pin (pcfgs (F := F)) adm 0).spec c : sProp 𝕄) = Scratch c from scopedRest0_eq c,
    show (StableHlo.held (c.tc : Thread nD τ) ∅ (V2 m (outs m) c) : sProp 𝕄) = BI.emp from bigSep_empty, own_sems]
  unfold Closed Yk
  iintro ⟨⟨Hb, Ho⟩, Hs, Hp⟩
  isplitl [Hs]; · iexact Hs
  isplitl [Hp]; · iexact Hp
  isplitr; · iempintro
  isplitl [Ho]; · iexact Ho
  iexact Hb

theorem cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  have h' : 0 < dueOf c t.val g i := h
  cases e : t.val with
  | succ n => rw [e] at h'; exact absurd h' (Nat.lt_irrefl 0)
  | zero =>
    rw [e] at h'
    obtain ⟨x, hx, rfl⟩ := owed_pos (l := dues c) h'
    rw [dues_eq] at hx
    have hl : x.1.1.2 = .tc ∧ 0 < level (role x.1.2) := by
      rcases List.mem_append.mp hx with hx | hx
      · obtain ⟨d, -, rfl⟩ := List.mem_map.mp hx
        exact ⟨rfl, by show 0 < level (role (.reg barrier0)); rw [role_bar]; decide⟩
      · exact ⟨(leftAll_later c x hx).1, lt_of_le_of_lt (Nat.zero_le _) (leftAll_later c x hx).2⟩
    exact ⟨by unfold L; rw [if_pos hl.1]; exact Finset.mem_singleton_self _, hl.2⟩

theorem staging_level : ∀ (w : Fin 6) (s : Fin (spec0 w).nbuf), level (role (.dma ((spec0 w).sem s))) = 0 := by decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) facts rfl (fun c => (body_meets m c).loose)
    (fun _ => 0) dueAt (fun c => (zero_add _).symm) (owed_last m) (fun _ => rfl)
    (fun c => (dat m c).share_full fun _ => rfl)
    (V1 m) (V2 m (outs m)) (fun c b hb => Function.update_of_ne (fun e => (Finset.mem_sdiff.mp (Finset.mem_sdiff.mp hb).1).2
      (by rw [e]; decide)) _ _)
    (Tk m) Yk (Xk m) Yk (opens m) (enters m) (leaves m)
    (fun c => by iintro H; imodintro; iexact H)
    (fun _ => 0)
    ⟨fun c w s => by rw [L_tc]; exact Finset.mem_singleton_self _, fun c w s => Nat.le_of_eq (staging_level w s), fun c t g i h => cut m c t g i h⟩
    (fun _ => iprop(emp))
    (fun c w => rfl) (fun c w => arr_after m c w)

end Cert.KernelIdeal.Talk

end
-- ==== Proof.Credit.lean ====
/- What the devices owe each other at the start, summed for each semaphore: three units on a barrier and on an exit
   semaphore, one row block on every receive semaphore. -/
module

public import proofs.«01_k».proof.Proof.Region

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-- Of the raises `l`, those on `g`. -/
def onCell (g : GSem nD τ sig) (l : List (GSem nD τ sig × ℕ)) : ℕ := (l.map fun x => if x.1 = g then x.2 else 0).sum

theorem owed_at (g : GSem nD τ sig) (l : List (GSem nD τ sig × ℕ)) : owed l g () = onCell g l := by
  induction l with
  | nil => rfl
  | cons x l ih =>
    show owed l g () + tallyAt x.1 () x.2 g () = _
    unfold onCell
    rw [ih, List.map_cons, List.sum_cons, Nat.add_comm]
    congr 1
    by_cases h : x.1 = g
    · rw [if_pos h, h, tallyAt_apply]; exact if_pos ⟨rfl, rfl⟩
    · rw [if_neg h, tallyAt_ne_cell (fun e => h e.symm)]; rfl

theorem on_append (g : GSem nD τ sig) (l l' : List (GSem nD τ sig × ℕ)) : onCell g (l ++ l') = onCell g l + onCell g l' := by
  unfold onCell; rw [List.map_append, List.sum_append]
theorem on_none (g : GSem nD τ sig) (l : List (GSem nD τ sig × ℕ)) (h : ∀ x ∈ l, role x.1.2 ≠ role g.2) : onCell g l = 0 := by
  induction l with
  | nil => rfl
  | cons x l ih =>
    unfold onCell at ih ⊢
    rw [List.map_cons, List.sum_cons, ih (fun y hy => h y (.tail _ hy)), if_neg fun e => h x (.head _) (by rw [e])]

theorem role_copies (d : Dev nD) (r : Fin 3) : ∀ x ∈ copies d r rows, ∃ k, role x.1.2 = .recv r k := fun x hx => by
  obtain ⟨k, -, rfl⟩ := List.mem_map.mp hx
  exact ⟨k, role_recv r k⟩
theorem role_bars (d : Dev nD) : ∀ x ∈ bars d, role x.1.2 = .bar := fun x hx => by
  obtain ⟨r, -, rfl⟩ := List.mem_map.mp hx
  exact role_bar
theorem role_exits (d : Dev nD) : ∀ x ∈ exits d, role x.1.2 = .fin := fun x hx => by
  obtain ⟨r, -, rfl⟩ := List.mem_map.mp hx
  exact role_exit

theorem dev_of {c d : Dev nD} {sm : SemLoc sig} (h : (((c : Thread nD τ), sm) : GSem nD τ sig) = ((d : Thread nD τ), sm)) : c = d :=
  congrArg (fun g : GSem nD τ sig => g.1.1) h

/-- One unit to each peer on the semaphore `sm`. -/
theorem on_peers (sm : SemLoc sig) (d c : Dev nD) :
    onCell ((c : Thread nD τ), sm) (([0, 1, 2] : List (Fin 3)).map fun r => (((peer r d : Thread nD τ), sm), 1))
      = (([0, 1, 2] : List (Fin 3)).map fun r => if peer r d = c then 1 else 0).sum := by
  unfold onCell
  rw [List.map_map]
  refine congrArg List.sum (List.map_congr_left fun r _ => ?_)
  show (if (((peer r d : Thread nD τ), sm) : GSem nD τ sig) = ((c : Thread nD τ), sm) then 1 else 0) = _
  by_cases h : peer r d = c
  · rw [if_pos h, if_pos (by rw [h])]
  · rw [if_neg h, if_neg fun e => h (dev_of e)]

theorem three_peers (c : Dev nD) : ∑ d : Dev nD, (([0, 1, 2] : List (Fin 3)).map fun r => if peer r d = c then 1 else 0).sum = 3 := by
  revert c; decide +kernel

theorem due_bar (d c : Dev nD) :
    dueAt d (barCell c) () = (([0, 1, 2] : List (Fin 3)).map fun r => if peer r d = c then 1 else 0).sum := by
  unfold dueAt dues
  rw [owed_at, on_append, on_none (barCell c) (_ ++ _), Nat.add_zero]
  · exact on_peers (.reg barrier0) d c
  · intro x hx
    show role x.1.2 ≠ role (.reg barrier0)
    rw [role_bar]
    rcases List.mem_append.mp hx with hx | hx
    · obtain ⟨k, e⟩ := role_copies d 0 x hx; rw [e]; exact Role.noConfusion
    rcases List.mem_append.mp hx with hx | hx
    · obtain ⟨k, e⟩ := role_copies d 1 x hx; rw [e]; exact Role.noConfusion
    rcases List.mem_append.mp hx with hx | hx
    · obtain ⟨k, e⟩ := role_copies d 2 x hx; rw [e]; exact Role.noConfusion
    rw [role_exits d x hx]; exact Role.noConfusion

theorem copies_other (d : Dev nD) (r : Fin 3) (g : GSem nD τ sig) (h : ∀ k, role g.2 ≠ .recv r k) : onCell g (copies d r rows) = 0 :=
  on_none g _ fun x hx e => by
    obtain ⟨k, e'⟩ := role_copies d r x hx
    exact h k (e.symm.trans e')

theorem due_exit (d c : Dev nD) :
    dueAt d (exitCell c) () = (([0, 1, 2] : List (Fin 3)).map fun r => if peer r d = c then 1 else 0).sum := by
  have hr : role (exitCell c).2 = .fin := role_exit
  unfold dueAt dues
  rw [owed_at, on_append, on_append, on_append, on_append,
    on_none (exitCell c) (bars d) (fun x hx => by rw [role_bars d x hx, hr]; exact Role.noConfusion),
    copies_other d 0 _ (fun k => by rw [hr]; exact Role.noConfusion), copies_other d 1 _ (fun k => by rw [hr]; exact Role.noConfusion),
    copies_other d 2 _ (fun k => by rw [hr]; exact Role.noConfusion), Nat.zero_add, Nat.zero_add, Nat.zero_add, Nat.zero_add]
  exact on_peers (.reg exS) d c

theorem one_row (n : ℕ) (k : Fin 8) : (rows.map fun k' => if k' = k then n else 0).sum = n := by
  fin_cases k <;> simp [rows]

/-- A round's copies raise the receive semaphore of row block `k` once, on the peer. -/
theorem on_copies (d c : Dev nD) (r r' : Fin 3) (k : Fin 8) :
    onCell (recvCell r k c) (copies d r' rows) = if r' = r ∧ peer r' d = c then N else 0 := by
  have hr : role (recvCell r k c).2 = .recv r k := role_recv r k
  by_cases h : r' = r
  · subst h
    unfold onCell copies
    rw [List.map_map]
    by_cases hp : peer r' d = c
    · rw [if_pos ⟨rfl, hp⟩]
      refine Eq.trans (congrArg List.sum (List.map_congr_left fun k' _ => ?_)) (one_row N k)
      show (if recvCell r' k' (peer r' d) = recvCell r' k c then N else 0) = _
      by_cases hk : k' = k
      · rw [if_pos hk, if_pos (by rw [hk, hp])]
      · rw [if_neg hk, if_neg fun e => hk ?_]
        have e2 : Role.recv r' k' = .recv r' k := by rw [← role_recv r' k', ← role_recv r' k]; exact congrArg (fun g : GSem nD τ sig => role g.2) e
        injection e2
    · rw [if_neg fun e => hp e.2]
      refine List.sum_eq_zero fun x hx => ?_
      obtain ⟨k', -, rfl⟩ := List.mem_map.mp hx
      exact if_neg fun e => hp (congrArg (fun g : GSem nD τ sig => g.1.1) e)
  · rw [if_neg fun e => h e.1]
    refine copies_other d r' _ fun k' e => h ?_
    rw [hr] at e
    injection e with e1 e2
    exact e1.symm

theorem due_recv (d c : Dev nD) (r : Fin 3) (k : Fin 8) : dueAt d (recvCell r k c) () = if d = peer r c then N else 0 := by
  have hr : role (recvCell r k c).2 = .recv r k := role_recv r k
  unfold dueAt dues
  rw [owed_at, on_append, on_append, on_append, on_append,
    on_none (recvCell r k c) (bars d) (fun x hx => by rw [role_bars d x hx, hr]; exact Role.noConfusion),
    on_none (recvCell r k c) (exits d) (fun x hx => by rw [role_exits d x hx, hr]; exact Role.noConfusion),
    on_copies, on_copies, on_copies, Nat.zero_add, Nat.add_zero]
  have e : ∀ r' : Fin 3, peer r' d = c ↔ d = peer r' c := fun r' =>
    ⟨fun h => by rw [← h, peer_peer], fun h => by rw [h, peer_peer]⟩
  simp only [e]
  generalize N = n
  fin_cases r <;> simp

/-! ## The launch credit -/

theorem credit_of (c : Dev nD) (sm : SemLoc sig) (n : ℕ) (h : ∑ d : Dev nD, dueAt d ((c : Thread nD τ), sm) () = n) :
    tallyOn ((c : Thread nD τ), sm) (launchCredit (Pipeline.owing dueAt) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, h]

/-- The semaphores a device is due raises on: barrier, exit, receive. -/
abbrev DueId : Type := Unit ⊕ (Unit ⊕ (Fin 3 × Fin 8))
def dueSem : DueId → SemLoc sig
  | .inl _ => .reg barrier0
  | .inr (.inl _) => .reg exS
  | .inr (.inr p) => .dma (semAt cc0_scratch4 p.1 p.2)
theorem dueSem_inj : Function.Injective dueSem := by decide +kernel

theorem credits (c : Dev nD) :
    (Pipeline.launchCred dueAt c : sProp 𝕄) ⊢ iprop(cred (tallyAt (barCell c) () 3) ∗ cred (tallyAt (exitCell c) () 3)
      ∗ bigSep Finset.univ fun p : Fin 3 × Fin 8 => cred (tallyAt (recvCell p.1 p.2 c) () N)) := by
  unfold Pipeline.launchCred
  have e : (bigSep (Finset.univ.map ⟨dueSem, dueSem_inj⟩) fun sm : SemLoc sig =>
        (cred (tallyOn ((c : Thread nD τ), sm) (launchCredit (Pipeline.owing dueAt) 0 ((c : Thread nD τ), sm))) : sProp 𝕄))
      = iprop(cred (tallyAt (barCell c) () 3) ∗ cred (tallyAt (exitCell c) () 3)
        ∗ bigSep Finset.univ fun p : Fin 3 × Fin 8 => cred (tallyAt (recvCell p.1 p.2 c) () N)) := by
    rw [bigSep_map, bigSep_univ_sum, bigSep_univ_sum, show (Finset.univ : Finset Unit) = {()} from rfl, bigSep_singleton, bigSep_singleton]
    refine congrArg₂ _ ?_ (congrArg₂ _ ?_ (bigSep_congr fun p _ => ?_))
    · exact congrArg cred (credit_of c (.reg barrier0) 3 ((Finset.sum_congr rfl fun d _ => due_bar d c).trans (three_peers c)))
    · exact congrArg cred (credit_of c (.reg exS) 3 ((Finset.sum_congr rfl fun d _ => due_exit d c).trans (three_peers c)))
    · refine congrArg cred (credit_of c (.dma (semAt cc0_scratch4 p.1 p.2)) N ((Finset.sum_congr rfl fun d _ => due_recv d c p.1 p.2).trans ?_))
      rw [Finset.sum_ite_eq' Finset.univ (peer p.1 c) fun _ => N, if_pos (Finset.mem_univ _)]
  rw [← e]
  exact bigSep_subset (Finset.subset_univ _)

end Cert.KernelIdeal.Talk

end
-- ==== Proof.Deal.lean ====
/- The rights to raise, dealt at the start: the barrier's, the exit's and the receive semaphores' go to the peer. -/
module

public import proofs.«01_k».proof.Proof.Credit

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-- The first round's raises of a device's semaphores. -/
abbrev TokId : Type := Fin 3 ⊕ (Fin 3 ⊕ (SlotId ⊕ SlotId))
def tokSem : TokId → SemLoc sig × Fin 3
  | .inl d => (.reg barrier0, d)
  | .inr (.inl d) => (.reg exS, d)
  | .inr (.inr (.inl p)) => (.dma (semAt cc0_scratch3 p.1 p.2), 0)
  | .inr (.inr (.inr p)) => (.dma (semAt cc0_scratch4 p.1 p.2), p.1)
theorem tokSem_inj : Function.Injective tokSem := by decide +kernel

def tokEmb : Dev nD × TokId ↪ GSem nD τ sig × ℕ × Fin 3 :=
  ⟨fun x => (((x.1 : Thread nD τ), (tokSem x.2).1), 0, (tokSem x.2).2), fun _ _ h =>
    Prod.ext (congrArg (fun g : GSem nD τ sig × ℕ × Fin 3 => g.1.1.1) h)
      (tokSem_inj (Prod.ext (congrArg (fun g : GSem nD τ sig × ℕ × Fin 3 => g.1.2) h) (congrArg (fun g : GSem nD τ sig × ℕ × Fin 3 => g.2.2) h)))⟩
def toks : Finset (GSem nD τ sig × ℕ × Fin 3) := Finset.univ.map tokEmb

/-- A device's tokens, the barrier's, the exit's and the receive semaphores' being those of `at_ d c`. -/
def toksOf (at_ : Fin 3 → Dev nD → Dev nD) (c : Dev nD) : sProp 𝕄 :=
  iprop((bigSep Finset.univ fun d : Fin 3 => dutyTok ER (barCell (at_ d c)) 0 d) ∗ (bigSep Finset.univ fun d : Fin 3 => dutyTok ER (exitCell (at_ d c)) 0 d)
    ∗ (bigSep Finset.univ fun p : SlotId => dutyTok ER (sendCell p.1 p.2 c) 0 0)
    ∗ bigSep Finset.univ fun p : SlotId => dutyTok ER (recvCell p.1 p.2 (at_ p.1 c)) 0 p.1)

theorem toks_eq : bigSep toks (fun x => (dutyTok ER x.1 x.2.1 x.2.2 : sProp 𝕄)) = bigSep Finset.univ fun c : Dev nD => toksOf (fun _ c => c) c := by
  unfold toks; rw [bigSep_map, bigSep_univ_prod]
  exact bigSep_congr fun c _ => by unfold toksOf; rw [bigSep_univ_sum, bigSep_univ_sum, bigSep_univ_sum]; rfl

/-- Each index `i` sent to its peer in direction `f i`. -/
def aroundEquiv {I : Type} (f : I → Fin 3) : Dev nD × I ≃ Dev nD × I where
  toFun x := (peer (f x.2) x.1, x.2)
  invFun x := (peer (f x.2) x.1, x.2)
  left_inv x := Prod.ext (peer_peer _ _) rfl
  right_inv x := Prod.ext (peer_peer _ _) rfl

theorem around {I : Type} [Fintype I] (f : I → Fin 3) (Φ : Dev nD → I → sProp 𝕄) :
    (bigSep Finset.univ fun c : Dev nD => bigSep Finset.univ fun i : I => Φ c i)
      = bigSep Finset.univ fun c : Dev nD => bigSep Finset.univ fun i : I => Φ (peer (f i) c) i := by
  rw [← bigSep_univ_prod (Φ := fun x : Dev nD × I => Φ x.1 x.2), bigSep_univ_equiv (aroundEquiv f) fun x : Dev nD × I => Φ x.1 x.2, bigSep_univ_prod]
  rfl

theorem toks_around : (bigSep Finset.univ fun c : Dev nD => (toksOf (fun _ c => c) c : sProp 𝕄)) = bigSep Finset.univ fun c : Dev nD => toksOf peer c := by
  unfold toksOf
  rw [bigSep_sep', bigSep_sep', bigSep_sep', bigSep_sep', bigSep_sep', bigSep_sep',
    around (fun d => d) (fun (c : Dev nD) (d : Fin 3) => (dutyTok ER (barCell c) 0 d : sProp 𝕄)),
    around (fun d => d) (fun (c : Dev nD) (d : Fin 3) => (dutyTok ER (exitCell c) 0 d : sProp 𝕄)),
    around (fun p : SlotId => p.1) (fun (c : Dev nD) (p : SlotId) => (dutyTok ER (recvCell p.1 p.2 c) 0 p.1 : sProp 𝕄))]

/-- What a device gets at the start, from its own part and what is known of the barriers. -/
theorem grant_intro (c : Dev nD) :
    iprop((bigSep barCells fun g => reached ER g 0) ∗ atPos ER (barCell c) 0 ∅ 0 ∗ toksOf peer c ∗ Pipeline.launchCred dueAt c) ⊢ (Grant c : sProp 𝕄) := by
  have hr : (bigSep barCells fun g => (reached ER g 0 : sProp 𝕄)) ⊢ bigSep Finset.univ fun d : Fin 3 => reached ER (barCell (peer d c)) 0 := by
    have one (d : Fin 3) : (bigSep barCells fun g => (reached ER g 0 : sProp 𝕄)) ⊢ reached ER (barCell (peer d c)) 0 :=
      bigSep_elim (Finset.mem_map_of_mem barEmb (Finset.mem_univ (peer d c)))
    rw [fin3]
    iintro #H
    isplitl; · iapply one 0 $$ H
    isplitl; · iapply one 1 $$ H
    iapply one 2 $$ H
  have hg : iprop((bigSep Finset.univ fun d : Fin 3 => dutyTok ER (barCell (peer d c)) 0 d) ∗ (bigSep Finset.univ fun d : Fin 3 => reached ER (barCell (peer d c)) 0)
        ∗ bigSep Finset.univ fun d : Fin 3 => dutyTok ER (exitCell (peer d c)) 0 d) ⊢ (bigSep Finset.univ fun d : Fin 3 => Greet (F := F) c d : sProp 𝕄) := by
    unfold Greet; rw [bigSep_sep', bigSep_sep']
  have ht : iprop((bigSep Finset.univ fun p : SlotId => cred (tallyAt (recvCell p.1 p.2 c) () N)) ∗ (bigSep Finset.univ fun p : SlotId => dutyTok ER (sendCell p.1 p.2 c) 0 0)
        ∗ bigSep Finset.univ fun p : SlotId => dutyTok ER (recvCell p.1 p.2 (peer p.1 c)) 0 p.1) ⊢ (bigSep Finset.univ fun p : SlotId => Ticket c p.1 p.2 : sProp 𝕄) := by
    unfold Ticket; rw [bigSep_sep', bigSep_sep']
  unfold toksOf Grant
  iintro ⟨#Hr, Ha, ⟨Hb, He, Hs, Hv⟩, Hc⟩
  ihave Hc := (credits (F := F) c) $$ Hc
  icases Hc with ⟨Hc1, Hc2, Hc3⟩
  isplitl [Ha]; · iexact Ha
  isplitl [Hc1]; · iexact Hc1
  isplitl [Hc2]; · iexact Hc2
  isplitl [Hb He]
  · iapply hg
    isplitl [Hb]; · iexact Hb
    isplitr; · iapply hr $$ Hr
    iexact He
  · iapply ht
    isplitl [Hc3]; · iexact Hc3
    isplitl [Hs]; · iexact Hs
    iexact Hv

end Cert.KernelIdeal.Talk

end
-- ==== Proof.Whole.lean ====
/- The whole program: from any memory, with every counter at zero, it ends with every counter at zero, the arguments
   unchanged and the result the summed row blocks. -/
module

public import proofs.«01_k».proof.Proof.Deal

@[expose] public section

noncomputable section

namespace Cert.KernelIdeal.Talk

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem disjoint_cells : Disjoint barCells ownCells := Finset.disjoint_left.mpr fun g hg hg' => by
  obtain ⟨c, -, rfl⟩ := Finset.mem_map.mp hg
  obtain ⟨x, -, e⟩ := Finset.mem_map.mp hg'
  exact osem_ne_bar x.2 (congrArg Prod.snd e)

def u₀ : UU := (initOf (Pipeline.cells (Pipeline.pin (pcfgs (F := F)) adm) cellOf_inj) (Pipeline.launchToks (Pipeline.pin (pcfgs (F := F)) adm) cellOf_inj),
  launchOf barCells ownCells toks)
/-- The set-up of the semaphores, given whole to the first device. -/
def G (c : Dev nD) : sProp 𝕄 := if c = 0 then BI.own (ER (launchOf barCells ownCells toks)) else BI.emp
theorem all_G : bigSep Finset.univ (G (F := F)) = BI.own (ER (launchOf barCells ownCells toks)) := by
  have rest : bigSep (Finset.univ.erase 0) (G (F := F)) = BI.emp := by
    rw [bigSep_congr (Ψ := fun _ => BI.emp) fun c hc => by unfold G; exact if_neg (Finset.ne_of_mem_erase hc)]
    exact bigSep_emp_const _
  rw [bigSep_univ_at _ (0 : Dev nD), rest]
  exact BI.equiv_iff.mp sep_emp

theorem paired {I : Type} [Fintype I] {P Q : I → sProp 𝕄} :
    iprop(bigSep Finset.univ P ∗ bigSep Finset.univ Q) ⊢ bigSep Finset.univ fun i => iprop(P i ∗ Q i) := Entails.of_eq (bigSep_sep' ..).symm
theorem unpaired {I : Type} [Fintype I] {P Q : I → sProp 𝕄} :
    (bigSep Finset.univ fun i => iprop(P i ∗ Q i)) ⊢ iprop(bigSep Finset.univ P ∗ bigSep Finset.univ Q) := Entails.of_eq (bigSep_sep' ..)

theorem fund : (ownU (u₀ (F := F)) : sProp 𝕄) ⊢ (|={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ G) : sProp 𝕄) := by
  unfold u₀
  iintro Hu
  ihave H := (ownU_pair _ _) $$ Hu
  icases H with ⟨HP, HX⟩
  imodintro
  isplitl [HP]; · iexact HP
  rw [all_G]; iexact HX

theorem unscoped_eq : ∀ sm : SemLoc sig, sm.isScoped .tc = false → sm = .reg barrier0 := by decide

theorem unscoped_bar (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

/-- What accompanies the buffers up to the call and after it. -/
def before (c : Dev nD) : sProp 𝕄 :=
  iprop(Tk m c ∗ (∃ r, prngReg c r) ∗ ∃ W, owes (c : Thread nD τ) (dueAt c) W)
def afterCall (c : Dev nD) : sProp 𝕄 :=
  iprop((∃ r, prngReg c r) ∗ Yk c ∗ ∃ W, owes (c : Thread nD τ) (0 : CellTallies nD τ sig Unit) W)
def T₀ (c : Dev nD) : sProp 𝕄 := iprop(StableHlo.held (c : Thread nD τ) (Pipeline.ucRefs τ sig) (V0 m c) ∗ before m c)
def Tₙ (c : Dev nD) : sProp 𝕄 := iprop(StableHlo.held (c : Thread nD τ) (Pipeline.ucRefs τ sig) (V3 m (outs m) c) ∗ Yk c)

theorem held_split (c : Dev nD) (W : Valuation τ sig (Elt F)) :
    (StableHlo.held (c : Thread nD τ) (Pipeline.ucRefs τ sig) W : sProp 𝕄)
      = iprop(StableHlo.held (c : Thread nD τ) (Pipeline.arrRefs spec0) W ∗ StableHlo.held (c : Thread nD τ) others W) :=
  StableHlo.held_sub_split _ (Pipeline.arrRefs_sub_ucRefs spec0 (by decide)) W

theorem pre0 (c : Dev nD) : iprop(StableHlo.held (c : Thread nD τ) (Pipeline.ucRefs τ sig) (V1 m c) ∗ before m c) ⊢ (reg m).pre c := by
  rw [held_split, show (reg m).pre c = iprop(StableHlo.held (c : Thread nD τ) (Pipeline.arrRefs spec0) (V1 m c) ∗ (∃ r, prngReg c r)
    ∗ (StableHlo.held (c : Thread nD τ) others (V1 m c) ∗ BI.emp) ∗ Tk m c ∗ ∃ Wd, owes (c : Thread nD τ) (0 + dueAt c) Wd) from rfl, zero_add]
  unfold before
  iintro ⟨⟨Ha, Hx⟩, HT, Hp, HO⟩
  isplitl [Ha]; · iexact Ha
  isplitl [Hp]; · iexact Hp
  isplitl [Hx]
  · isplitl [Hx]; · iexact Hx
    iempintro
  isplitl [HT]; · iexact HT
  iexact HO

theorem post0 (c : Dev nD) : (reg m).post c ⊢ iprop(StableHlo.held (c : Thread nD τ) (Pipeline.ucRefs τ sig) (V2 m (outs m) c) ∗ afterCall c) := by
  rw [held_split, show (reg m).post c = iprop(StableHlo.held (c : Thread nD τ) (Pipeline.arrRefs spec0) (V2 m (outs m) c) ∗ (∃ r, prngReg c r)
    ∗ (StableHlo.held (c : Thread nD τ) others (V2 m (outs m) c) ∗ BI.emp) ∗ Yk c ∗ ∃ Wd, owes (c : Thread nD τ) 0 Wd) from rfl]
  unfold afterCall
  iintro ⟨Ha, Hp, ⟨Hx, -⟩, HY, HO⟩
  isplitl [Ha Hx]
  · isplitl [Ha]; · iexact Ha
    iexact Hx
  isplitl [Hp]; · iexact Hp
  isplitl [HY]; · iexact HY
  iexact HO

theorem final (c : Dev nD) : iprop(StableHlo.held (c : Thread nD τ) (Pipeline.ucRefs τ sig) (V3 m (outs m) c) ∗ afterCall c)
    ⊢ (iprop(Tₙ m c ∗ ∃ W, owes (c : Thread nD τ) (0 : CellTallies nD τ sig Unit) W) : sProp 𝕄) := by
  unfold Tₙ afterCall
  iintro ⟨Hh, -, HY, HO⟩
  isplitr [HO]
  · isplitl [Hh] <;> iassumption
  iexact HO

/-- A device's own part of the launch. -/
def bundle (c : Dev nD) : sProp 𝕄 :=
  iprop(StableHlo.held (c : Thread nD τ) (Pipeline.ucRefs τ sig) (V0 m c) ∗ Pipeline.launchCred dueAt c ∗ (∃ r, prngReg c r)
    ∗ ∃ W, owes (c : Thread nD τ) (dueAt c) W)
/-- A device's part of the set-up of the semaphores. -/
def linear (c : Dev nD) : sProp 𝕄 :=
  iprop(atPos ER (barCell c) 0 ∅ 0 ∗ (bigSep Finset.univ fun s : OwnSem => openTok ER ((c : Thread nD τ), osem s)) ∗ toksOf peer c)
def records (K : GSem nD τ sig → ℕ) : sProp 𝕄 := iprop(known (parts m) K ∗ bigSep barCells fun g => reached ER g 0)
instance records_persistent (K : GSem nD τ sig → ℕ) : BI.Persistent (records m K) := by unfold records; infer_instance

theorem T₀_intro (K : GSem nD τ sig → ℕ) (c : Dev nD) : iprop(records m K ∗ linear c ∗ bundle m c) ⊢ (T₀ m c : sProp 𝕄) := by
  unfold records linear bundle T₀ before Tk
  iintro ⟨⟨#HK, #HR⟩, ⟨Ha, Ho, Ht⟩, Hh, Hc, Hp, HO⟩
  isplitl [Hh]; · iexact Hh
  isplitr [Hp HO]
  · isplitr; · iexists K; iexact HK
    isplitl [Ho]; · iexact Ho
    iapply grant_intro
    isplitr; · iexact HR
    isplitl [Ha]; · iexact Ha
    isplitl [Ht]; · iexact Ht
    iexact Hc
  isplitl [Hp]; · iexact Hp
  iexact HO

theorem init :
    iprop((bigSep Finset.univ fun c : Dev nD => iprop(unscopedBufs c (fun b => m ((c : Thread nD τ).loc b)) ∗ unscopedSems0 c
          ∗ owes (c : Thread nD τ) (dueAt c) ∅ ∗ Pipeline.launchCred dueAt c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (dueAt c) ∅ ∗ Pipeline.launchCred dueAt c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), unscoped_bar]
    unfold bundle
    iintro ⟨Hh, Hb, HO, Hc, Hp, HG⟩
    isplitr [Hb HG]
    · isplitl [Hh]; · iexact Hh
      isplitl [Hc]; · iexact Hc
      isplitl [Hp]; · iexists (ρ c); iexact Hp
      iexists ∅; iexact HO
    isplitl [Hb] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun s : OwnSem => openTok ER ((c : Thread nD τ), osem s)) :=
    Entails.of_eq (by rw [bigSep_map, bigSep_univ_prod]; rfl)
  have htok : bigSep toks (fun x => (dutyTok ER x.1 x.2.1 x.2.2 : sProp 𝕄)) ⊢ bigSep Finset.univ fun c : Dev nD => toksOf peer c :=
    Entails.of_eq (toks_eq.trans toks_around)
  have hall : (bigSep Finset.univ fun c : Dev nD => iprop(unscopedBufs c (fun b => m ((c : Thread nD τ).loc b)) ∗ unscopedSems0 c
          ∗ owes (c : Thread nD τ) (dueAt c) ∅ ∗ Pipeline.launchCred dueAt c ∗ prngReg c (ρ c) ∗ G c))
      ⊢ (bigSep Finset.univ fun c : Dev nD => iprop(bundle m c ∗ (semVal (barCell c) 0 ∗ G c)) : sProp 𝕄) := bigSep_mono fun c _ => hcore c
  have hG : bigSep Finset.univ (G (F := F)) ⊢ BI.own (ER (launchOf barCells ownCells toks)) :=
    Entails.of_eq all_G
  iintro ⟨H, -⟩
  ihave H' := hall $$ H
  ihave H2 := unpaired $$ H'; icases H2 with ⟨HB, H3⟩
  ihave H4 := unpaired $$ H3; icases H4 with ⟨Hv, HG⟩
  ihave Hu := hG $$ HG
  imod (Rounds.fund_launch ER (Rd (parts m)) disjoint_cells (fun g _ h => h) toks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ bundle m c)) fun c _ => T₀_intro m K c)
  isplitr
  · unfold records known
    isplitr; · iexact Hinv
    iexact Hr
  iapply paired
  isplitr [HB]
  · unfold linear
    iapply paired; isplitl [Hat]; · iapply hat $$ Hat
    iapply paired; isplitl [Hopen]; · iapply hopen $$ Hopen
    iapply htok $$ Htok
  · iexact HB

/-- What a device's memory reads at the end. -/
def Ends (c : Dev nD) (s : (ℓ : Loc nD τ sig) → Buf (Elt F) ℓ) : Prop :=
  s ((c : Thread nD τ).loc main_v21) = V3 m (outs m) c (Proc.devRef .tc main_v21)
    ∧ s ((c : Thread nD τ).loc main_arg0) = m ((c : Thread nD τ).loc main_arg0)
    ∧ s ((c : Thread nD τ).loc main_arg1) = m ((c : Thread nD τ).loc main_arg1)
    ∧ s ((c : Thread nD τ).loc main_arg2) = m ((c : Thread nD τ).loc main_arg2)
    ∧ s ((c : Thread nD τ).loc main_arg3) = m ((c : Thread nD τ).loc main_arg3)
    ∧ s ((c : Thread nD τ).loc main_arg4) = m ((c : Thread nD τ).loc main_arg4)

set_option backward.isDefEq.respectTransparency.types false in
theorem run_main : θ_run defs (onTc (τ := τ) (main (F := F))) ⟨m, fun _ => 0, ρ⟩ (fun r => (∀ c : Dev nD, Ends m c r.2.mem) ∧ r.2.sem = fun _ => 0) :=
  Pipeline.θ_run_regions_kit_dev_sems (pcfgs (F := F)) adm (pdats m) () cellOf_inj EP defs₀ 𝒱₀ L lv m ρ main
    (segs m (outs m) 𝒱₀ L lv (fun i c => if i = 0 then before m c else afterCall c) () (pdats m) (reg m))
    (fun c Q => by
      rewrite [main_chain c, Pipeline.Seg.run_eq_chain,
        show (segs m (outs m) 𝒱₀ L lv (fun i c => if i = 0 then before m c else afterCall c) () (pdats m) (reg m) c).map Pipeline.Seg.prog
          = [StableHlo.seq (hostOps0 c), Prog.lift (.customCall (Pipeline.entry 0) ()), StableHlo.seq hostOps1] from rfl]
      dsimp (config := { failIfUnchanged := false }) only
      exact .rfl)
    (fun c => by simp only [segs, Pipeline.Seg.pipes_host, Pipeline.Seg.pipes_region, Pipeline.Seg.pipes_nil]; decide)
    dueAt L_of_ne G u₀ fund (T₀ m) (Tₙ m)
    (fun c => ⟨.rfl, pre0 m c, post0 m c, final m c⟩)
    (init m ρ)
    (QY := fun c s => Ends m c s.mem ∧ s.sem (barCell c) = 0)
    (hfin := fun c s' => by
      unfold Tₙ StableHlo.held Yk
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨⟨h (Proc.devRef .tc main_v21) (Finset.mem_filter.mpr ⟨StableHlo.devRef_mem_tcRefs main_v21, by decide⟩),
          (h (Proc.devRef .tc main_arg0) (Finset.mem_filter.mpr ⟨StableHlo.devRef_mem_tcRefs main_arg0, by decide⟩)).trans (V3_main_arg0 m (outs m) c),
          (h (Proc.devRef .tc main_arg1) (Finset.mem_filter.mpr ⟨StableHlo.devRef_mem_tcRefs main_arg1, by decide⟩)).trans (V3_main_arg1 m (outs m) c),
          (h (Proc.devRef .tc main_arg2) (Finset.mem_filter.mpr ⟨StableHlo.devRef_mem_tcRefs main_arg2, by decide⟩)).trans (V3_main_arg2 m (outs m) c),
          (h (Proc.devRef .tc main_arg3) (Finset.mem_filter.mpr ⟨StableHlo.devRef_mem_tcRefs main_arg3, by decide⟩)).trans (V3_main_arg3 m (outs m) c),
          (h (Proc.devRef .tc main_arg4) (Finset.mem_filter.mpr ⟨StableHlo.devRef_mem_tcRefs main_arg4, by decide⟩)).trans (V3_main_arg4 m (outs m) c)⟩,
          by simpa using hb⟩
      · iexact HSI)
    (hQ := fun s h hs => ⟨fun c => (h c).1, sem_eq_zero hs fun c sm hsm => by
      obtain rfl := unscoped_eq sm hsm
      exact (h c).2⟩)

end Cert.KernelIdeal.Talk

end
-- ==== Proof.Attention.lean ====
/- What both programs compute, in exact arithmetic: which keys a query attends to, a score, and one element of a head's
   context. -/
module

public import Idealize.ShloMosaic.Lib.Pointwise

@[expose] public section

noncomputable section

namespace Cert.Attention

open Idealize.ShloMosaic

/-- Whether block `a` of the queries attends to block `b` of the keys, as a bit. -/
def blockAttends (a b : Fin 4) : BitVec 1 := if a.val = b.val ∨ b.val = 0 ∨ (a.val + b.val) % 3 = 0 then 1#1 else 0#1

/-- The block of a position. -/
abbrev blockOf (i : Fin 256) : Fin 4 := ⟨i.val / 64, by omega⟩

/-- Whether query `i` attends to key `j`, as a bit. -/
def attends (i j : Fin 256) : BitVec 1 := blockAttends (blockOf i) (blockOf j)

/-- A score: the scaled product of a query with a key where the bit is set, a large negative number elsewhere. -/
def score (b : BitVec 1) (q k : Fin 64 → EReal) : EReal :=
  Scalar.select b ((∑ d, q d * k d) * Ideal.ofBits .f32 0x3E000000#32) (Ideal.ofBits .f32 0xCE6E6B28#32)

/-- The exponential of entry `j` of a row of scores, less the largest. -/
def power (s : Fin 256 → EReal) (j : Fin 256) : EReal :=
  Ideal.exp (s j - Finset.univ.fold max (Ideal.ofBits .f32 0xFF800000#32) s)

/-- One element of a head's context: a row of scores, its exponentials over their sum, times a column of values. -/
def soft (s v : Fin 256 → EReal) : EReal := ∑ j, Ideal.div (power s j) (∑ j', power s j') * v j

end Cert.Attention

end
-- ==== Proof.Value.lean ====
/- The values of a device's partial result and of the sum of the partial results, in exact arithmetic: elements as
   sums over the contracted dimensions. -/
module

public import proofs.«01_k».proof.Proof.Buffers
public import proofs.«01_k».proof.Proof.Attention

@[expose] public section

noncomputable section

namespace Cert.KernelIdeal.Talk

open Idealize.ShloMosaic Idealize.ShloMosaic.TcCoe Cert.KernelIdeal.Gen Cert.Attention

/-- The block of a query. -/
theorem qBlock_apply (i j : Fin 256) : k0_pay2 (ix2 i j) = BitVec.ofNat 32 (i.val / 64) := by
  pointwise [k0_pay2]
  revert i; decide +kernel

/-- The blocks of the keys: the second coordinate floor-divided by 64. -/
def kBlock : IVec S256x256 32 :=
  select (andi k0_pay4 (cmpi .ne (remsi (iota .tc S256x256 32 [1] iota_S256x256_d1_w32) (broadcast S256x256 64#32)) (broadcast S256x256 0#32)))
    (subi k0_pay3 (broadcast S256x256 1#32)) k0_pay3

theorem kBlock_apply (i j : Fin 256) : kBlock (ix2 i j) = BitVec.ofNat 32 (j.val / 64) := by
  pointwise [kBlock, k0_pay3, k0_pay4]
  revert j; decide +kernel

/-- The remainder by 3, of the divisor's sign. -/
def mod3 (x : IVec S256x256 32) : IVec S256x256 32 :=
  let n : BitVec 32 := Scalar.select (Scalar.cmpi .eq 3#32 0#32) 1#32 3#32
  let r : IVec S256x256 32 := remsi x (broadcast S256x256 n)
  select (andi (xori (cmpi .slt r (broadcast S256x256 0#32))
      (broadcastTo S256x256 (broadcast S256x256 (Scalar.cmpi .slt n 0#32)) broadcasts_S256x256_S256x256))
    (cmpi .ne r (broadcast S256x256 0#32))) (addi r (broadcast S256x256 n)) r

theorem mask_eq : mask = ori (ori (cmpi .eq k0_pay2 kBlock) (cmpi .eq kBlock (broadcast S256x256 0#32)))
    (cmpi .eq (mod3 (addi k0_pay2 kBlock)) (broadcast S256x256 0#32)) := rfl

theorem mask_apply (i j : Fin 256) : mask (ix2 i j) = attends i j := by
  rw [mask_eq]
  pointwise [mod3]
  rw [qBlock_apply, kBlock_apply]
  show _ = blockAttends (blockOf i) (blockOf j)
  generalize ha : blockOf i = a
  generalize hb : blockOf j = b
  rw [show i.val / 64 = a.val from congrArg Fin.val ha, show j.val / 64 = b.val from congrArg Fin.val hb]
  clear ha hb
  revert a b; decide +kernel

theorem scores_apply (q : FVec Ideal S256x64 .bf16) (kk : Vec Ideal S1x256x64 .bf16) (i j : Fin 256) :
    scores q kk (ix2 i j) = score (attends i j) (fun d => q (ix2 i d)) fun d => kk (ix3 (n0 := 1) (n1 := 256) (n2 := 64) 0 j d) := by
  pointwise [scores]
  rw [mask_apply]
  rfl

theorem expo_apply (s : FVec Ideal S256x256 .f32) (i j : Fin 256) :
    expo s (ix2 i j) = power (fun j => s (ix2 i j)) j := by
  pointwise [expo, power]

theorem attend_apply (e : FVec Ideal S256x256 .f32) (vv : Vec Ideal S1x256x64 .bf16) (i : Fin 256) (d : Fin 64) :
    attend e vv (ix2 i d) = ∑ j : Fin 256, Ideal.div (e (ix2 i j)) (∑ j' : Fin 256, e (ix2 i j')) * vv (ix3 (n0 := 1) (n1 := 256) (n2 := 64) 0 j d) := by
  pointwise [attend]

theorem headOf_apply (h : Fin 4) (qs : FVec Ideal S256x256 .bf16) (i : Fin 256) (d : Fin 64) :
    headOf h qs (ix2 i d) = qs (ix2 (n0 := 256) (n1 := 256) i ⟨64 * h.val + d.val, by omega⟩) := by
  pointwise [headOf]

theorem queries_apply (xs : Vec Ideal S256x512 .bf16) (w : Vec Ideal S512x256 .bf16) (i t : Fin 256) :
    queries xs w (ix2 i t) = ∑ k : Fin 512, xs (ix2 (n0 := 256) (n1 := 512) i k) * w (ix2 (n0 := 512) (n1 := 256) k t) := by
  pointwise [queries]

theorem project_apply (cx : Vec Ideal S256x256 .bf16) (w : Vec Ideal S256x512 .bf16) (i : Fin 256) (n : Fin 512) :
    project cx w (ix2 i n) = ∑ t : Fin 256, cx (ix2 (n0 := 256) (n1 := 256) i t) * w (ix2 (n0 := 256) (n1 := 512) t n) := by
  pointwise [project]

theorem headCtx_apply (h : Fin 4) (qs : FVec Ideal S256x256 .bf16) (kk vv : Vec Ideal S1x256x64 .bf16) (i : Fin 256) (d : Fin 64) :
    headCtx h qs kk vv (ix2 i d)
      = soft (fun j => score (attends i j) (fun d => qs (ix2 (n0 := 256) (n1 := 256) i ⟨64 * h.val + d.val, by omega⟩))
            fun d => kk (ix3 (n0 := 1) (n1 := 256) (n2 := 64) 0 j d))
          fun j => vv (ix3 (n0 := 1) (n1 := 256) (n2 := 64) 0 j d) := by
  unfold headCtx
  rw [attend_apply]
  simp only [expo_apply, scores_apply, headOf_apply]
  rfl

/-- Row `i` of batch entry `b`, as a row of the input and of the result. -/
abbrev rowAt (b : Fin 2) (i : Fin 256) : Fin 512 := ⟨256 * b.val + i.val, by omega⟩
/-- The head of a device that column `t` of its context belongs to. -/
abbrev headAt (t : Fin 256) : Fin 4 := ⟨t.val / 64, by omega⟩
/-- The column of its head that column `t` of a device's context is. -/
abbrev colAt (t : Fin 256) : Fin 64 := ⟨t.val % 64, by omega⟩
/-- Head `h` of batch entry `b`, as a device holds keys and values. -/
abbrev slabAt (b : Fin 2) (h : Fin 4) : Fin 8 := ⟨4 * b.val + h.val, by omega⟩

section Parts

variable (X : Vec Ideal S512x512 .bf16) (WQ : Vec Ideal S512x256 .bf16) (KS VS : Vec Ideal S8x256x64 .bf16) (WO : Vec Ideal S256x512 .bf16)

theorem rowsOf_apply (b : Fin 2) (i : Fin 256) (k : Fin 512) :
    rowsOf X b (ix2 (n0 := 256) (n1 := 512) i k) = X (ix2 (n0 := 512) (n1 := 512) (rowAt b i) k) := by
  refine congrArg X (funext fun a => ?_)
  match a with
  | ⟨0, _⟩ => exact Fin.ext (by rw [Rect.emb_apply]; show 256 * b.val + 1 * i.val = 256 * b.val + i.val; omega)
  | ⟨1, _⟩ => exact Fin.ext (by rw [Rect.emb_apply]; show 0 + 1 * k.val = k.val; omega)

theorem kvOf_apply (b : Fin 2) (h : Fin 4) (M : Vec Ideal S8x256x64 .bf16) (j : Fin 256) (d : Fin 64) :
    kvOf b h M (ix3 (n0 := 1) (n1 := 256) (n2 := 64) 0 j d) = M (ix3 (n0 := 8) (n1 := 256) (n2 := 64) (slabAt b h) j d) := by
  refine congrArg M (funext fun a => ?_)
  match a with
  | ⟨0, _⟩ => exact Fin.ext (by rw [Rect.emb_apply]; show 4 * b.val + h.val + 1 * 0 = 4 * b.val + h.val; omega)
  | ⟨1, _⟩ => exact Fin.ext (by rw [Rect.emb_apply]; show 0 + 1 * j.val = j.val; omega)
  | ⟨2, _⟩ => exact Fin.ext (by rw [Rect.emb_apply]; show 0 + 1 * d.val = d.val; omega)

theorem ctxOf_apply (b : Fin 2) (i t : Fin 256) :
    ctxOf X WQ KS VS b (ix2 (n0 := 256) (n1 := 256) i t)
      = soft (fun j => score (attends i j)
            (fun d => ∑ k : Fin 512, X (ix2 (n0 := 512) (n1 := 512) (rowAt b i) k)
              * WQ (ix2 (n0 := 512) (n1 := 256) k ⟨64 * (headAt t).val + d.val, by omega⟩))
            fun d => KS (ix3 (n0 := 8) (n1 := 256) (n2 := 64) (slabAt b (headAt t)) j d))
          fun j => VS (ix3 (n0 := 8) (n1 := 256) (n2 := 64) (slabAt b (headAt t)) j (colAt t)) := by
  have e : ctxOf X WQ KS VS b (ix2 (n0 := 256) (n1 := 256) i t)
      = headCtx (headAt t) (queries (rowsOf X b) WQ) (kvOf b (headAt t) KS) (kvOf b (headAt t) VS) (ix2 i (colAt t)) := rfl
  rw [e, headCtx_apply]
  simp only [queries_apply, rowsOf_apply, kvOf_apply]

theorem partOf_apply (b : Fin 2) (i : Fin 256) (n : Fin 512) :
    partOf X WQ KS VS WO (ix2 (n0 := 512) (n1 := 512) (rowAt b i) n)
      = ∑ t : Fin 256, ctxOf X WQ KS VS b (ix2 (n0 := 256) (n1 := 256) i t) * WO (ix2 (n0 := 256) (n1 := 512) t n) := by
  rw [← project_apply, ← partOf_half]
  refine congrArg _ (funext fun a => ?_)
  match a with
  | ⟨0, _⟩ => exact Fin.ext (by rw [Rect.emb_apply]; show 256 * b.val + i.val = 256 * b.val + 1 * i.val; omega)
  | ⟨1, _⟩ => exact Fin.ext (by rw [Rect.emb_apply]; show n.val = 0 + 1 * n.val; omega)

end Parts

/-! ## The sum of the partial results -/

theorem add_send_apply (o p : FVec Ideal S64x512 .f32) (j : S64x512.Idx) : addRows o (sendRows p) j = o j + p j := by
  rw [ValueIdx.eq_ix2 (n0 := 64) (n1 := 512) j]
  pointwise [addRows, sendRows]

/-- Three rounds of adding a peer's sum make the sum over all devices. -/
theorem rounds_sum (f : Dev nD → EReal) (c : Dev nD) :
    ((f c + f (peer 0 c)) + (f (peer 1 c) + f (peer 0 (peer 1 c))))
      + ((f (peer 2 c) + f (peer 0 (peer 2 c))) + (f (peer 1 (peer 2 c)) + f (peer 0 (peer 1 (peer 2 c))))) = ∑ d : Dev nD, f d := by
  have e : ∑ d : Dev nD, f d = f ⟨0, by decide⟩ + f ⟨1, by decide⟩ + f ⟨2, by decide⟩ + f ⟨3, by decide⟩ + f ⟨4, by decide⟩ + f ⟨5, by decide⟩
      + f ⟨6, by decide⟩ + f ⟨7, by decide⟩ := Fin.sum_univ_eight f
  rw [e]
  fin_cases c <;> simp only [peer] <;> abel!

theorem total_apply (part : Dev nD → FVec Ideal S512x512 .f32) (c : Dev nD) (r n : Fin 512) :
    total c part (ix2 (n0 := 512) (n1 := 512) r n) = ∑ d : Dev nD, part d (ix2 (n0 := 512) (n1 := 512) r n) := by
  rw [← rounds_sum _ c]
  have h0 : ∀ (k : Fin 8) (i : Fin 64) (d : Dev nD), acc part 0 k d (ix2 (n0 := 64) (n1 := 512) i n)
      = part d (ix2 (n0 := 512) (n1 := 512) ⟨64 * k.val + i.val, by omega⟩ n) := fun k i d => by
    refine congrArg (part d) (funext fun a => ?_)
    match a with
    | ⟨0, _⟩ => exact Fin.ext (by rw [Rect.emb_apply]; show 64 * k.val + 1 * i.val = 64 * k.val + i.val; omega)
    | ⟨1, _⟩ => exact Fin.ext (by rw [Rect.emb_apply]; show 0 + 1 * n.val = n.val; omega)
  have hs : ∀ (s : Fin 3) (k : Fin 8) (d : Dev nD) (j : S64x512.Idx),
      acc part (s.val + 1) k d j = acc part s.val k d j + acc part s.val k (peer s d) j := fun s k d j => by
    rw [acc_succ]; exact add_send_apply _ _ _
  have e : total c part (ix2 (n0 := 512) (n1 := 512) r n)
      = acc part 3 ⟨r.val / 64, by omega⟩ c (ix2 (n0 := 64) (n1 := 512) ⟨r.val % 64, by omega⟩ n) := rfl
  have hr : (⟨64 * (r.val / 64) + r.val % 64, by omega⟩ : Fin 512) = r := Fin.ext (by show 64 * (r.val / 64) + r.val % 64 = r.val; omega)
  have s2 := hs 2; have s1 := hs 1; have s0 := hs 0
  simp only [Fin.val_two, Fin.val_one, Fin.val_zero, Nat.reduceAdd] at s2 s1 s0
  rw [e]
  simp only [s2, s1, s0, h0, hr]

end Cert.KernelIdeal.Talk

end
-- ==== Proof.Inputs.lean ====
/- What the host operations before the call hand to it, and what the one after it makes of the result, element by element. -/
module

public import proofs.«01_k».proof.Proof.Region
public import proofs.«01_k».proof.Proof.Value
public import Idealize.ShloMosaic.Lib.StableHlo.Run
public import Idealize.ShloMosaic.Lib.DynamicIndex

@[expose] public section

noncomputable section

namespace Cert.KernelIdeal.Talk

open Idealize.ShloMosaic Idealize.ShloMosaic.TcCoe Cert.KernelIdeal.Gen Cert.Attention

variable (m : (ℓ : Loc nD τ sig) → Buf (Elt Ideal) ℓ) (c : Dev nD)

/-- The launch's arguments, as device `c` holds them. -/
abbrev argX : FVec Ideal S2x256x512 .bf16 := m ((c : Thread nD τ).loc main_arg0)
abbrev argWQ : FVec Ideal S512x2048 .bf16 := m ((c : Thread nD τ).loc main_arg1)
abbrev argK : FVec Ideal S2x256x4x64 .bf16 := m ((c : Thread nD τ).loc main_arg2)
abbrev argV : FVec Ideal S2x256x4x64 .bf16 := m ((c : Thread nD τ).loc main_arg3)
abbrev argWO : FVec Ideal S2048x512 .bf16 := m ((c : Thread nD τ).loc main_arg4)

/-- The first of a device's columns of the query weights, and of its rows of the output weights, as the host computes it. -/
def first : IVec S_ 32 :=
  let d : IVec S_ 32 := muli (id (Host.remui (Host.divui (constantI S_ 32 (Dev.word c)) (constantI S_ 32 1#32)) (constantI S_ 32 8#32)))
    (constantI S_ 32 256#32)
  select (cmpi .slt d (constantI S_ 32 0#32)) (addi d (constantI S_ 32 2048#32)) d

theorem first_toInt : (first c (Shape.Idx.first h_S_)).toInt = ((256 * c.val : ℕ) : ℤ) := by
  revert c; decide +kernel

theorem inX_eq : inX m c = shapeCast S512x512 (argX m c) shapeCasts_S2x256x512_S512x512 := by
  unfold inX V1
  after_results_simp
  rfl

theorem inKS_eq : inKS m c = shapeCast S8x256x64 (transpose S2x4x256x64 [0, 2, 1, 3] (argK m c) transposes_S2x256x4x64_S2x4x256x64_0_2_1_3)
    shapeCasts_S2x4x256x64_S8x256x64 := by
  unfold inKS V1
  after_results_simp
  rfl

theorem inVS_eq : inVS m c = shapeCast S8x256x64 (transpose S2x4x256x64 [0, 2, 1, 3] (argV m c) transposes_S2x256x4x64_S2x4x256x64_0_2_1_3)
    shapeCasts_S2x4x256x64_S8x256x64 := by
  unfold inVS V1
  after_results_simp
  rfl

theorem slicesWQ : S512x2048.Slices ![0, 256 * c.val] S512x256 := by revert c; decide
theorem slicesWO : S2048x512.Slices ![256 * c.val, 0] S256x512 := by revert c; decide

theorem inWQ_eq : inWQ m c = extractStridedSlice S512x256 ![0, 256 * c.val] (argWQ m c) (slicesWQ c) := by
  unfold inWQ V1
  after_results_simp
  refine Host.dynamicSlice_eq_extractStridedSlice _ _ _ _ _ (slicesWQ c) fun a => ?_
  match a with
  | ⟨0, _⟩ =>
    after_results_simp
    rfl
  | ⟨1, _⟩ =>
    refine Eq.trans ?_ (first_toInt c)
    after_results_simp
    rfl

theorem inWO_eq : inWO m c = extractStridedSlice S256x512 ![256 * c.val, 0] (argWO m c) (slicesWO c) := by
  unfold inWO V1
  after_results_simp
  refine Host.dynamicSlice_eq_extractStridedSlice _ _ _ _ _ (slicesWO c) fun a => ?_
  match a with
  | ⟨0, _⟩ =>
    refine Eq.trans ?_ (first_toInt c)
    after_results_simp
    rfl
  | ⟨1, _⟩ =>
    after_results_simp
    rfl

theorem result_eq : V3 m (outs m) c (Proc.devRef .tc main_v21)
    = shapeCast S2x256x512 (total c (parts m)) shapeCasts_S512x512_S2x256x512 := by
  unfold V3
  after_results_simp
  rw [result_after]
  rfl

/-! ## Element by element -/

theorem inX_apply (b : Fin 2) (i : Fin 256) (k : Fin 512) :
    inX m c (ix2 (n0 := 512) (n1 := 512) (rowAt b i) k) = argX m c (ix3 b i k) := by
  rw [inX_eq]
  pointwise
  rw [show (⟨(256 * b.val + i.val) / 256, by omega⟩ : Fin 2) = b from Fin.ext (by show (256 * b.val + i.val) / 256 = b.val; omega),
    show (⟨(256 * b.val + i.val) % 256, by omega⟩ : Fin 256) = i from Fin.ext (by show (256 * b.val + i.val) % 256 = i.val; omega)]

/-- Column `t` of device `c` among all columns of the context. -/
abbrev allAt (c : Dev nD) (t : Fin 256) : Fin 2048 := ⟨256 * c.val + t.val, by have : c.val < 8 := c.isLt; omega⟩

theorem inWQ_apply (k : Fin 512) (t : Fin 256) :
    inWQ m c (ix2 (n0 := 512) (n1 := 256) k t) = argWQ m c (ix2 k (allAt c t)) := by
  rw [inWQ_eq]
  pointwise

theorem inWO_apply (t : Fin 256) (n : Fin 512) :
    inWO m c (ix2 (n0 := 256) (n1 := 512) t n) = argWO m c (ix2 (allAt c t) n) := by
  rw [inWO_eq]
  pointwise

theorem slab_apply (M : FVec Ideal S2x256x4x64 .bf16) (b : Fin 2) (h : Fin 4) (j : Fin 256) (d : Fin 64) :
    shapeCast S8x256x64 (transpose S2x4x256x64 [0, 2, 1, 3] M transposes_S2x256x4x64_S2x4x256x64_0_2_1_3)
      shapeCasts_S2x4x256x64_S8x256x64 (ix3 (n0 := 8) (n1 := 256) (n2 := 64) (slabAt b h) j d) = M (ix4 b j h d) := by
  pointwise
  rw [show (⟨(4 * b.val + h.val) / 4, by omega⟩ : Fin 2) = b from Fin.ext (by show (4 * b.val + h.val) / 4 = b.val; omega),
    show (⟨(4 * b.val + h.val) % 4, by omega⟩ : Fin 4) = h from Fin.ext (by show (4 * b.val + h.val) % 4 = h.val; omega)]

/-- A device's partial result from what it is handed, each read as elements of the arguments. -/
theorem part_value {A : FVec Ideal S2x256x512 .bf16} {B : FVec Ideal S512x2048 .bf16} {C D : FVec Ideal S2x256x4x64 .bf16}
    {E : FVec Ideal S2048x512 .bf16} {X : Vec Ideal S512x512 .bf16} {WQ : Vec Ideal S512x256 .bf16} {KS VS : Vec Ideal S8x256x64 .bf16}
    {WO : Vec Ideal S256x512 .bf16} (d : Dev nD)
    (hX : ∀ (b : Fin 2) (i : Fin 256) (k : Fin 512), X (ix2 (n0 := 512) (n1 := 512) (rowAt b i) k) = A (ix3 b i k))
    (hWQ : ∀ (k : Fin 512) (t : Fin 256), WQ (ix2 (n0 := 512) (n1 := 256) k t) = B (ix2 k (allAt d t)))
    (hK : ∀ (b : Fin 2) (h : Fin 4) (j : Fin 256) (e : Fin 64), KS (ix3 (n0 := 8) (n1 := 256) (n2 := 64) (slabAt b h) j e) = C (ix4 b j h e))
    (hV : ∀ (b : Fin 2) (h : Fin 4) (j : Fin 256) (e : Fin 64), VS (ix3 (n0 := 8) (n1 := 256) (n2 := 64) (slabAt b h) j e) = D (ix4 b j h e))
    (hWO : ∀ (t : Fin 256) (n : Fin 512), WO (ix2 (n0 := 256) (n1 := 512) t n) = E (ix2 (allAt d t) n))
    (b : Fin 2) (i : Fin 256) (n : Fin 512) :
    partOf X WQ KS VS WO (ix2 (n0 := 512) (n1 := 512) (rowAt b i) n)
      = ∑ t : Fin 256, soft (fun j => score (attends i j)
            (fun e => ∑ k : Fin 512, A (ix3 b i k) * B (ix2 k (allAt d ⟨64 * (headAt t).val + e.val, by omega⟩)))
            fun e => C (ix4 b j (headAt t) e))
          (fun j => D (ix4 b j (headAt t) (colAt t))) * E (ix2 (allAt d t) n) := by
  rw [partOf_apply]
  simp only [ctxOf_apply, hX, hWQ, hK, hV, hWO]

/-- What device `c` returns. -/
def result : FVec Ideal S2x256x512 .f32 := V3 m (outs m) c (Proc.devRef .tc main_v21)

theorem result_apply (b : Fin 2) (i : Fin 256) (n : Fin 512) :
    result m c (ix3 b i n)
      = ∑ d : Dev nD, ∑ t : Fin 256, soft (fun j => score (attends i j)
            (fun e => ∑ k : Fin 512, argX m d (ix3 b i k) * argWQ m d (ix2 k (allAt d ⟨64 * (headAt t).val + e.val, by omega⟩)))
            fun e => argK m d (ix4 b j (headAt t) e))
          (fun j => argV m d (ix4 b j (headAt t) (colAt t))) * argWO m d (ix2 (allAt d t) n) := by
  have e : result m c (ix3 b i n)
      = total c (parts m) (ix2 (n0 := 512) (n1 := 512) (rowAt b i) n) := by
    unfold result
    rw [result_eq]
    pointwise
    rw [show (⟨b.val * 256 + i.val, by omega⟩ : Fin 512) = rowAt b i from Fin.ext (by show b.val * 256 + i.val = 256 * b.val + i.val; omega)]
  rw [e, total_apply]
  exact Finset.sum_congr rfl fun d _ => part_value d (inX_apply m d) (inWQ_apply m d)
    (fun b h j e => (congrFun (inKS_eq m d) _).trans (slab_apply _ b h j e))
    (fun b h j e => (congrFun (inVS_eq m d) _).trans (slab_apply _ b h j e)) (inWO_apply m d) b i n

end Cert.KernelIdeal.Talk

end
-- ==== Proof.Reference.lean ====
/- The reference's result in exact arithmetic, element by element: its mask, its scores, its weights and its output
   projection, each named and read at an index. -/
module

public import proofs.«01_k».proof.Proof.Gen.ReferenceIdeal.Run
public import proofs.«01_k».proof.Proof.Attention

@[expose] public section

noncomputable section

namespace Cert.ReferenceIdeal.Terms

open Idealize.ShloMosaic Idealize.ShloMosaic.TcCoe Cert.ReferenceIdeal Cert.ReferenceIdeal.Gen Cert.Attention

/-! ## The mask -/

/-- The block of each position: the position floor-divided by 64. -/
def blocks : IVec S256 32 :=
  let n : IVec S_ 32 := id (constantI S_ 32 64#32)
  let q : IVec S256 32 := Host.divsi (iotaInDim S256 32 0) (broadcastInDim S256 ![] bcast_S_S256 n)
  select
    (andi (cmpi .ne (signi (iotaInDim S256 32 0)) (broadcastInDim S256 ![] bcast_S_S256 (signi n)))
      (cmpi .ne (Host.remsi (iotaInDim S256 32 0) (broadcastInDim S256 ![] bcast_S_S256 n))
        (broadcastInDim S256 ![] bcast_S_S256 (constantI S_ 32 0#32))))
    (subi q (broadcastInDim S256 ![] bcast_S_S256 (constantI S_ 32 1#32))) q

/-- The blocks of the queries, a column. -/
def qBlocks : IVec S256x256 32 :=
  broadcastInDim S256x256 ![0, 1] bcast_S256x1_S256x256_0_1 (broadcastInDim S256x1 ![0] bcast_S256_S256x1_0 blocks)
/-- The blocks of the keys, a row. -/
def kRow : IVec S1x256 32 := broadcastInDim S1x256 ![1] bcast_S256_S1x256_1 blocks
def kBlocks : IVec S256x256 32 := broadcastInDim S256x256 ![0, 1] bcast_S1x256_S256x256_0_1 kRow

/-- The remainder by 3, of the divisor's sign. -/
def mod3 (x : IVec S256x256 32) : IVec S256x256 32 :=
  let n : IVec S_ 32 := select (cmpi .eq (id (constantI S_ 32 3#32)) (constantI S_ 32 0#32)) (constantI S_ 32 1#32) (id (constantI S_ 32 3#32))
  let r : IVec S256x256 32 := Host.remsi x (broadcastInDim S256x256 ![] bcast_S_S256x256 n)
  select
    (andi (cmpi .ne (cmpi .slt r (broadcastInDim S256x256 ![] bcast_S_S256x256 (constantI S_ 32 0#32)))
        (broadcastInDim S256x256 ![] bcast_S_S256x256 (cmpi .slt n (constantI S_ 32 0#32))))
      (cmpi .ne r (broadcastInDim S256x256 ![] bcast_S_S256x256 (constantI S_ 32 0#32))))
    (addi r (broadcastInDim S256x256 ![] bcast_S_S256x256 n)) r

/-- Which keys a query attends to. -/
def keeps : IVec S256x256 1 :=
  ori (ori (cmpi .eq qBlocks kBlocks)
      (broadcastInDim S256x256 ![0, 1] bcast_S1x256_S256x256_0_1
        (cmpi .eq kRow (broadcastInDim S1x256 ![] bcast_S_S1x256 (constantI S_ 32 0#32)))))
    (cmpi .eq (mod3 (addi qBlocks kBlocks)) (broadcastInDim S256x256 ![] bcast_S_S256x256 (constantI S_ 32 0#32)))

/-- Which queries attend to some key. -/
def rowKeeps : IVec S256 1 := Host.reduce IntOp.ori keeps (constantI S_ 1 0#1) reducesTo_S256x256_S256_d1 h_S_

/-! ## The scores, the weights and the output -/

section Values

variable {F : FTy → Type} [FloatOps F]
variable (X : FVec F S2x256x512 .bf16) (WQ : FVec F S512x2048 .bf16) (K V : FVec F S2x256x32x64 .bf16) (WO : FVec F S2048x512 .bf16)

def queries : FVec F S2x256x32x64 .f32 :=
  shapeCast _ (Host.dotGeneral dot_S2x256x512_S512x2048_S2x256x2048_2_0_01_1_n_n none (extf .f32 X bitsLt_bf16_f32)
    (extf .f32 WQ bitsLt_bf16_f32)) shapeCasts_S2x256x2048_S2x256x32x64

def scores (q : FVec F S2x256x32x64 .f32) : FVec F S2x32x256x256 .f32 :=
  select (broadcastInDim S2x32x256x256 ![0, 1, 2, 3] bcast_S1x1x256x256_S2x32x256x256_0_1_2_3
      (broadcastInDim S1x1x256x256 ![2, 3] bcast_S256x256_S1x1x256x256_2_3 keeps))
    (mulf (Host.dotGeneral dot_S2x256x32x64_S2x256x32x64_S2x32x256x256_3_3_1_1_02_02 none q (extf .f32 K bitsLt_bf16_f32))
      (broadcastInDim S2x32x256x256 ![] bcast_S_S2x32x256x256 (constant S_ .f32 0x3E000000#32)))
    (broadcastInDim S2x32x256x256 ![] bcast_S_S2x32x256x256 (id (constant S_ .f32 0xCE6E6B28#32)))

def expo (s : FVec F S2x32x256x256 .f32) : FVec F S2x32x256x256 .f32 :=
  Host.exp (subf s (broadcastInDim S2x32x256x256 ![0, 1, 2, 3] bcast_S2x32x256x1_S2x32x256x256_0_1_2_3
    (broadcastInDim S2x32x256x1 ![0, 1, 2] bcast_S2x32x256_S2x32x256x1_0_1_2
      (Host.reduce FloatOps.maximumf s (constant S_ .f32 0xFF800000#32) reducesTo_S2x32x256x256_S2x32x256_d3 h_S_))))

def weights (e : FVec F S2x32x256x256 .f32) : FVec F S2x32x256x256 .f32 :=
  select (broadcastInDim S2x32x256x256 ![0, 1, 2, 3] bcast_S1x1x256x1_S2x32x256x256_0_1_2_3
      (broadcastInDim S1x1x256x1 ![2] bcast_S256_S1x1x256x1_2 rowKeeps))
    (Host.divf e (broadcastInDim S2x32x256x256 ![0, 1, 2, 3] bcast_S2x32x256x1_S2x32x256x256_0_1_2_3
      (select (broadcastInDim S2x32x256x1 ![0, 1, 2, 3] bcast_S1x1x256x1_S2x32x256x1_0_1_2_3
          (broadcastInDim S1x1x256x1 ![2] bcast_S256_S1x1x256x1_2 rowKeeps))
        (broadcastInDim S2x32x256x1 ![0, 1, 2] bcast_S2x32x256_S2x32x256x1_0_1_2
          (Host.reduceAdd e (constant S_ .f32 0x00000000#32) reducesTo_S2x32x256x256_S2x32x256_d3 h_S_))
        (broadcastInDim S2x32x256x1 ![] bcast_S_S2x32x256x1 (id (constant S_ .f32 0x3F800000#32))))))
    (broadcastInDim S2x32x256x256 ![] bcast_S_S2x32x256x256 (id (constant S_ .f32 0x00000000#32)))

def context (w : FVec F S2x32x256x256 .f32) : FVec F S2x256x2048 .f32 :=
  shapeCast _ (transpose S2x256x32x64 [0, 3, 1, 2]
    (Host.dotGeneral dot_S2x256x32x64_S2x32x256x256_S2x32x64x256_1_3_3_2_02_01 none (extf .f32 V bitsLt_bf16_f32) w)
    transposes_S2x32x64x256_S2x256x32x64_0_3_1_2) shapeCasts_S2x256x32x64_S2x256x2048

def output : FVec F S2x256x512 .f32 :=
  Host.dotGeneral dot_S2x256x2048_S2048x512_S2x256x512_2_0_01_1_n_n none
    (context V (weights (expo (scores K (queries X WQ))))) (extf .f32 WO bitsLt_bf16_f32)

theorem result_eq (m : (ℓ : Loc nD τ sig) → Buf (Elt F) ℓ) (c : Dev nD) :
    Value.res_out0 m c = output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Values

/-! ## Element by element -/

theorem blocks_apply (i : Fin 256) : blocks (ix1 i) = BitVec.ofNat 32 (i.val / 64) := by
  pointwise [blocks]
  revert i; decide +kernel

theorem keeps_apply (i j : Fin 256) : keeps (ix2 i j) = attends i j := by
  pointwise [keeps, qBlocks, kBlocks, kRow, mod3]
  rw [blocks_apply, blocks_apply]
  show _ = blockAttends (blockOf i) (blockOf j)
  generalize ha : blockOf i = a
  generalize hb : blockOf j = b
  rw [show i.val / 64 = a.val from congrArg Fin.val ha, show j.val / 64 = b.val from congrArg Fin.val hb]
  clear ha hb
  revert a b; decide +kernel

theorem one_or (b : BitVec 1) : IntOp.ori 1#1 b = 1#1 := by revert b; decide

/-- Every query attends to the first key. -/
theorem rowKeeps_apply (i : Fin 256) : rowKeeps (ix1 i) = 1#1 := by
  pointwise [rowKeeps]
  rw [← Finset.insert_erase (Finset.mem_univ (0 : Fin 256)), Finset.fold_insert (Finset.notMem_erase _ _), keeps_apply,
    show attends i 0 = 1#1 from if_pos (Or.inr (Or.inl rfl))]
  exact one_or _

section Elements

variable (X : FVec Ideal S2x256x512 .bf16) (WQ : FVec Ideal S512x2048 .bf16) (K V : FVec Ideal S2x256x32x64 .bf16) (WO : FVec Ideal S2048x512 .bf16)

theorem queries_apply (b : Fin 2) (i : Fin 256) (h : Fin 32) (d : Fin 64) :
    queries X WQ (ix4 b i h d) = ∑ k : Fin 512, X (ix3 b i k) * WQ (ix2 k ⟨h.val * 64 + d.val, by omega⟩) := by
  pointwise [queries]

theorem scores_apply (q : FVec Ideal S2x256x32x64 .f32) (b : Fin 2) (h : Fin 32) (i j : Fin 256) :
    scores K q (ix4 b h i j) = score (attends i j) (fun d => q (ix4 b i h d)) fun d => K (ix4 b j h d) := by
  pointwise [scores]
  rw [keeps_apply]
  rfl

theorem expo_apply (s : FVec Ideal S2x32x256x256 .f32) (b : Fin 2) (h : Fin 32) (i j : Fin 256) :
    expo s (ix4 b h i j) = power (fun j => s (ix4 b h i j)) j := by
  pointwise [expo, power]

theorem weights_apply (e : FVec Ideal S2x32x256x256 .f32) (b : Fin 2) (h : Fin 32) (i j : Fin 256) :
    weights e (ix4 b h i j) = Ideal.div (e (ix4 b h i j)) (∑ j' : Fin 256, e (ix4 b h i j')) := by
  pointwise [weights]
  rw [rowKeeps_apply]
  rfl

theorem context_apply (w : FVec Ideal S2x32x256x256 .f32) (b : Fin 2) (i : Fin 256) (T : Fin 2048) :
    context V w (ix3 b i T) = ∑ j : Fin 256, w (ix4 b ⟨T.val / 64, by omega⟩ i j) * V (ix4 b j ⟨T.val / 64, by omega⟩ ⟨T.val % 64, by omega⟩) := by
  pointwise [context]
  exact Finset.sum_congr rfl fun _ _ => mul_comm _ _

theorem output_apply (b : Fin 2) (i : Fin 256) (n : Fin 512) :
    output X WQ K V WO (ix3 b i n)
      = ∑ T : Fin 2048, soft (fun j => score (attends i j)
            (fun d => ∑ k : Fin 512, X (ix3 b i k) * WQ (ix2 k ⟨T.val / 64 * 64 + d.val, by omega⟩))
            fun d => K (ix4 b j ⟨T.val / 64, by omega⟩ d))
          (fun j => V (ix4 b j ⟨T.val / 64, by omega⟩ ⟨T.val % 64, by omega⟩)) * WO (ix2 T n) := by
  pointwise [output]
  refine Finset.sum_congr rfl fun T _ => congrArg (· * _) ?_
  rw [context_apply]
  simp only [weights_apply, expo_apply, scores_apply, queries_apply]
  rfl

end Elements

end Cert.ReferenceIdeal.Terms

end
-- ==== Proof.Equal.lean ====
/- The kernel's result is the reference's: the devices' columns together are all columns of the context. -/
module

public import proofs.«01_k».proof.Proof.Inputs
public import proofs.«01_k».proof.Proof.Reference

@[expose] public section

noncomputable section

namespace Cert.Equal

open Idealize.ShloMosaic Idealize.ShloMosaic.TcCoe Cert.Attention Cert.KernelIdeal.Talk
open Cert.KernelIdeal (nD τ sig)

/-- A sum over the columns of all devices, device by device, is the sum over all columns. -/
theorem sum_columns (f : Fin 2048 → EReal) : ∑ d : Dev nD, ∑ t : Fin 256, f (allAt d t) = ∑ T : Fin 2048, f T := by
  have h := Equiv.sum_comp (finProdFinEquiv (m := 8) (n := 256)) f
  rw [← h, Fintype.sum_prod_type]
  refine Finset.sum_congr rfl fun d _ => Finset.sum_congr rfl fun t _ => congrArg f (Fin.ext ?_)
  show 256 * d.val + t.val = t.val + 256 * d.val
  omega

/-- Device `d`'s keys or values of its head `h`, of the whole array. -/
theorem block_head (M : FVec Ideal ⟨4, ![2, 256, 32, 64]⟩ .bf16) (d : Fin 8) (b : Fin 2) (j : Fin 256) (h : Fin 4) (e : Fin 64) :
    Layout.block ⟨4, ![2, 256, 4, 64]⟩ ⟨4, ![2, 256, 32, 64]⟩ 2 8 d M (by decide) (ix4 b j h e) = M (ix4 b j ⟨4 * d.val + h.val, by omega⟩ e) := by
  rw [Layout.block_apply]
  refine congrArg M (funext fun a => Fin.ext ?_)
  rw [Layout.Tiles.idx_val]
  match a with
  | ⟨0, _⟩ => rfl
  | ⟨1, _⟩ => rfl
  | ⟨2, _⟩ => show d.val * 4 + h.val = 4 * d.val + h.val; omega
  | ⟨3, _⟩ => rfl

variable (X : FVec Ideal ⟨3, ![2, 256, 512]⟩ .bf16) (WQ : FVec Ideal ⟨2, ![512, 2048]⟩ .bf16)
  (K V : FVec Ideal ⟨4, ![2, 256, 32, 64]⟩ .bf16) (WO : FVec Ideal ⟨2, ![2048, 512]⟩ .bf16)

theorem result_eq (m : (ℓ : Loc nD τ sig) → Buf (Elt Ideal) ℓ)
    (hX : ∀ d, argX m d = X) (hWQ : ∀ d, argWQ m d = WQ)
    (hK : ∀ d, argK m d = Layout.block ⟨4, ![2, 256, 4, 64]⟩ ⟨4, ![2, 256, 32, 64]⟩ 2 8 d K)
    (hV : ∀ d, argV m d = Layout.block ⟨4, ![2, 256, 4, 64]⟩ ⟨4, ![2, 256, 32, 64]⟩ 2 8 d V)
    (hWO : ∀ d, argWO m d = WO) (c : Dev nD) :
    result m c = Cert.ReferenceIdeal.Terms.output X WQ K V WO := by
  funext i
  obtain ⟨b, r, n, rfl⟩ : ∃ (b : Fin 2) (r : Fin 256) (n : Fin 512), i = ix3 b r n := ⟨_, _, _, eq_ix3 i⟩
  rw [Cert.ReferenceIdeal.Terms.output_apply, ← sum_columns, result_apply]
  simp only [hX, hWQ, hK, hV, hWO, block_head]
  refine Finset.sum_congr rfl fun d _ => Finset.sum_congr rfl fun t _ => ?_
  have h1 : (allAt d t).val / 64 = 4 * d.val + t.val / 64 := by show (256 * d.val + t.val) / 64 = _; omega
  have h2 : (allAt d t).val % 64 = t.val % 64 := by show (256 * d.val + t.val) % 64 = _; omega
  simp only [h1, h2]
  have h3 : ∀ e : Fin 64, allAt d ⟨64 * (t.val / 64) + e.val, by omega⟩
      = ⟨(4 * d.val + t.val / 64) * 64 + e.val, by have : d.val < 8 := d.isLt; omega⟩ := fun e => Fin.ext (by
    show 256 * d.val + (64 * (t.val / 64) + e.val) = (4 * d.val + t.val / 64) * 64 + e.val; omega)
  simp only [h3]

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Whole
public import proofs.«01_k».proof.Proof.Bits.Whole
public import proofs.«01_k».proof.Proof.Equal
public import Idealize.ShloMosaic.Adequacy
public import Idealize.ShloMosaic.Init

@[expose] public section

noncomputable section

namespace Cert.Proof

open Idealize.ShloMosaic Idealize.SL.Sem Cert.Kernel

theorem kernel_frame : quiescent_Kernel := fun m g _ =>
  (θ_run _ _ _).mono (fun _ h => ⟨fun c => (h.1 c).2, h.2⟩) (Cert.Kernel.Talk.run_main m g)

theorem kernelIdeal_frame : quiescent_KernelIdeal := fun m g _ =>
  (θ_run _ _ _).mono (fun _ h => ⟨fun c => (h.1 c).2, h.2⟩) (Cert.KernelIdeal.Talk.run_main m g)

theorem reference_frame : quiescent_ReferenceIdeal := fun m g _ =>
  (θ_run _ _ _).mono (fun r h => ⟨fun c => (h c).2, sem_eq_zero_of_no_sems (by decide) r.2⟩) (Cert.ReferenceIdeal.Value.run m g)

/-- Every device returns the reference's result. -/
theorem algebraic : algebraic_KernelIdeal_ReferenceIdeal := fun m g m' g' _ args =>
  ⟨Cert.ReferenceIdeal.Value.res_out0 m' 0,
    (θ_run _ _ _).mono (fun _ h c => ⟨(h.1 c).1.trans ((Cert.Equal.result_eq _ _ _ _ _ m (fun d => (args d).1) (fun d => (args d).2.1)
      (fun d => (args d).2.2.1) (fun d => (args d).2.2.2.1) (fun d => (args d).2.2.2.2) c).trans
        (Cert.ReferenceIdeal.Terms.result_eq m' 0).symm), (h.1 c).2⟩) (Cert.KernelIdeal.Talk.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  kernel_frame, kernelIdeal_frame, reference_frame, trivial, algebraic⟩

end Cert.Proof

end
